-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x8192 : Shape := ⟨3, ![4, 3, 8192]⟩
abbrev S4x3x2048 : Shape := ⟨3, ![4, 3, 2048]⟩
abbrev S4x128x8192 : Shape := ⟨3, ![4, 128, 8192]⟩
abbrev S4x256x2048 : Shape := ⟨3, ![4, 256, 2048]⟩
abbrev S256x384 : Shape := ⟨2, ![256, 384]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel
  bcast_S_S4x3x2048 : S_.BroadcastsInDim S4x3x2048 (![] : Fin 0 → Fin S4x3x2048.rank)
  reducesTo_S4x3x2048_S_d0_1_2 : S4x3x2048.ReducesTo [0, 1, 2] S_
  bcast_S_S4x128x8192 : S_.BroadcastsInDim S4x128x8192 (![] : Fin 0 → Fin S4x128x8192.rank)
  reducesTo_S4x128x8192_S_d0_1_2 : S4x128x8192.ReducesTo [0, 1, 2] S_
  bcast_S_S4x256x2048 : S_.BroadcastsInDim S4x256x2048 (![] : Fin 0 → Fin S4x256x2048.rank)
  reducesTo_S4x256x2048_S_d0_1_2 : S4x256x2048.ReducesTo [0, 1, 2] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S256 .f32) (main_arg8 : FVec F S128x256 .f32) (main_arg9 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x384 .f32) (main_arg5 : FVec F S256 .f32) (main_arg6 : FVec F S256 .f32) (main_arg7 : FVec F S256 .f32) (main_arg8 : FVec F S128x256 .f32) (main_arg9 : FVec F S128 .f32) (main_v13 : IVec S_ 1) (main_v16 : IVec S4x256x2048 1) : IVec S_ 1 :=
  let main_c_5 : IVec S_ 1 := constantI S_ 1 1#1
  let main_v17 : IVec S_ 1 := (fun x v => Host.reduce IntOp.andi x v reducesTo_S4x256x2048_S_d0_1_2 h_S_) main_v16 main_c_5
  let main_v18 : IVec S_ 1 := andi main_v13 main_v17
  let main_v19 : FVec F S256x384 .f32 := Host.absf main_arg4
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S4x3x8192 .f32) (main_arg1 : FVec F S4x3x2048 .f32) (main_arg2 : FVec F S4x128x8192 .f32) (main_arg3 : FVec F S4x256x2048 .f32) (main_arg4 : FVec F S256x384 .f32) (main_arg5 : FVec F S256 .f32) (main_arg6 : FVec F S256 .f32) (main_arg7 : FVec F S256 .f32) (main_arg8 : FVec F S128x256 .f32) (main_arg9 : FVec F S128 .f32) (main_arg10 : FVec F S128 .f32) (main_arg11 : FVec F S128 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x2048 .f32 := Host.absf main_arg1
  let main_cst_0 : FVec F S_ .f32 := constant S_ .f32 0x7F800000#32
  let main_v5 : FVec F S4x3x2048 .f32 := broadcastInDim S4x3x2048 ![] bcast_S_S4x3x2048 main_cst_0
  let main_v6 : IVec S4x3x2048 1 := cmpf .olt main_v4 main_v5
  let main_c_1 : IVec S_ 1 := constantI S_ 1 1#1
  let main_v7 : IVec S_ 1 := (fun x v => Host.reduce IntOp.andi x v reducesTo_S4x3x2048_S_d0_1_2 h_S_) main_v6 main_c_1
  let main_v8 : IVec S_ 1 := andi main_v3 main_v7
  let main_v9 : FVec F S4x128x8192 .f32 := Host.absf main_arg2
  let main_cst_2 : FVec F S_ .f32 := constant S_ .f32 0x7F800000#32
  let main_v10 : FVec F S4x128x8192 .f32 := broadcastInDim S4x128x8192 ![] bcast_S_S4x128x8192 main_cst_2
  let main_v11 : IVec S4x128x8192 1 := cmpf .olt main_v9 main_v10
  let main_c_3 : IVec S_ 1 := constantI S_ 1 1#1
  let main_v12 : IVec S_ 1 := (fun x v => Host.reduce IntOp.andi x v reducesTo_S4x128x8192_S_d0_1_2 h_S_) main_v11 main_c_3
  let main_v13 : IVec S_ 1 := andi main_v8 main_v12
  let main_v14 : FVec F S4x256x2048 .f32 := Host.absf main_arg3
  let main_cst_4 : FVec F S_ .f32 := constant S_ .f32 0x7F800000#32
  let main_v15 : FVec F S4x256x2048 .f32 := broadcastInDim S4x256x2048 ![] bcast_S_S4x256x2048 main_cst_4
  let main_v16 : IVec S4x256x2048 1 := cmpf .olt main_v14 main_v15
  fn_part1 (F := F) main_arg4 main_arg5 main_arg6 main_arg7 main_arg8 main_arg9 main_v13 main_v16
-- ==== Kernel.lean ====
abbrev S4x3x8192 : Shape := ⟨3, ![4, 3, 8192]⟩
abbrev S4x3x2048 : Shape := ⟨3, ![4, 3, 2048]⟩
abbrev S4x128x8192 : Shape := ⟨3, ![4, 128, 8192]⟩
abbrev S4x256x2048 : Shape := ⟨3, ![4, 256, 2048]⟩
abbrev S256x384 : Shape := ⟨2, ![256, 384]⟩
abbrev S256 : Shape := ⟨1, ![256]⟩
abbrev S128x256 : Shape := ⟨2, ![128, 256]⟩
abbrev S128 : Shape := ⟨1, ![128]⟩
abbrev S4x8192x3 : Shape := ⟨3, ![4, 8192, 3]⟩
abbrev S4x8192x128 : Shape := ⟨3, ![4, 8192, 128]⟩
abbrev S4x2048x256 : Shape := ⟨3, ![4, 2048, 256]⟩
abbrev S256x128 : Shape := ⟨2, ![256, 128]⟩
abbrev S256x256 : Shape := ⟨2, ![256, 256]⟩
abbrev S1x256 : Shape := ⟨2, ![1, 256]⟩
abbrev S4x8192x256 : Shape := ⟨3, ![4, 8192, 256]⟩
abbrev S1x2048x3 : Shape := ⟨3, ![1, 2048, 3]⟩
abbrev S1x3x2048 : Shape := ⟨3, ![1, 3, 2048]⟩
abbrev S1x2048x256 : Shape := ⟨3, ![1, 2048, 256]⟩
abbrev S1x2048x128 : Shape := ⟨3, ![1, 2048, 128]⟩
abbrev S2048x3 : Shape := ⟨2, ![2048, 3]⟩
abbrev S3x2048 : Shape := ⟨2, ![3, 2048]⟩
abbrev S2048 : Shape := ⟨1, ![2048]⟩
abbrev S2048x1 : Shape := ⟨2, ![2048, 1]⟩
abbrev S2048x2048 : Shape := ⟨2, ![2048, 2048]⟩
abbrev S1x2048 : Shape := ⟨2, ![1, 2048]⟩
abbrev S2048x256 : Shape := ⟨2, ![2048, 256]⟩
abbrev S2048x128 : Shape := ⟨2, ![2048, 128]⟩
abbrev S1x128 : Shape := ⟨2, ![1, 128]⟩
abbrev S1x128x2048 : Shape := ⟨3, ![1, 128, 2048]⟩
abbrev S128x2048 : Shape := ⟨2, ![128, 2048]⟩

abbrev nBuf : Space → Nat
  | .hbm => 33
  | .vmem => 35
  | .smem => 0
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S4x128x8192, .f32⟩
  | .hbm, ⟨3, _⟩ => ⟨S4x256x2048, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S4x8192x3, .f32⟩
  | .hbm, ⟨13, _⟩ => ⟨S4x8192x128, .f32⟩
  | .hbm, ⟨14, _⟩ => ⟨S4x2048x256, .f32⟩
  | .hbm, ⟨15, _⟩ => ⟨S256x128, .f32⟩
  | .hbm, ⟨16, _⟩ => ⟨S128x256, .f32⟩
  | .hbm, ⟨17, _⟩ => ⟨S256x256, .f32⟩
  | .hbm, ⟨18, _⟩ => ⟨S256x256, .f32⟩
  | .hbm, ⟨19, _⟩ => ⟨S256x128, .f32⟩
  | .hbm, ⟨20, _⟩ => ⟨S1x256, .f32⟩
  | .hbm, ⟨21, _⟩ => ⟨S4x8192x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x128, .f32⟩
  | .hbm, ⟨27, _⟩ => ⟨S4x8192x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S4x128x8192, .f32⟩
  | .local _ .vmem, ⟨0, _⟩ => ⟨S1x2048x3, .f32⟩
  | .local _ .vmem, ⟨1, _⟩ => ⟨S1x2048x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x128, .f32⟩
  | .local _ .vmem, ⟨7, _⟩ => ⟨S1x2048x128, .f32⟩
  | .local _ .vmem, ⟨8, _⟩ => ⟨S128x256, .f32⟩
  | .local _ .vmem, ⟨9, _⟩ => ⟨S256x256, .f32⟩
  | .local _ .vmem, ⟨10, _⟩ => ⟨S1x256, .f32⟩
  | .local _ .vmem, ⟨11, _⟩ => ⟨S1x2048x256, .f32⟩
  | .local _ .vmem, ⟨12, _⟩ => ⟨S1x2048x256, .f32⟩
  | .local _ .vmem, ⟨13, _⟩ => ⟨S1x256, .f32⟩
  | .local _ .vmem, ⟨14, _⟩ => ⟨S1x256, .f32⟩
  | .local _ .vmem, ⟨15, _⟩ => ⟨S1x2048x256, .f32⟩
  | .local _ .vmem, ⟨16, _⟩ => ⟨S1x2048x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S256x128, .f32⟩
  | .local _ .vmem, ⟨22, _⟩ => ⟨S1x128, .f32⟩
  | .local _ .vmem, ⟨23, _⟩ => ⟨S1x2048x128, .f32⟩
  | .local _ .vmem, ⟨24, _⟩ => ⟨S1x2048x128, .f32⟩
  | .local _ .vmem, ⟨25, _⟩ => ⟨S1x128, .f32⟩
  | .local _ .vmem, ⟨26, _⟩ => ⟨S1x128, .f32⟩
  | .local _ .vmem, ⟨27, _⟩ => ⟨S1x2048x128, .f32⟩
  | .local _ .vmem, ⟨28, _⟩ => ⟨S1x2048x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128x2048, .f32⟩
  | .local _ .vmem, ⟨34, _⟩ => ⟨S1x128x2048, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg9_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S4x3x8192 : Shape := ⟨3, ![4, 3, 8192]⟩
abbrev S4x3x2048 : Shape := ⟨3, ![4, 3, 2048]⟩
abbrev S4x128x8192 : Shape := ⟨3, ![4, 128, 8192]⟩
abbrev S4x256x2048 : Shape := ⟨3, ![4, 256, 2048]⟩
abbrev S256x384 : Shape := ⟨2, ![256, 384]⟩
abbrev S256 : Shape := ⟨1, ![256]⟩
abbrev S128x256 : Shape := ⟨2, ![128, 256]⟩
abbrev S128 : Shape := ⟨1, ![128]⟩
abbrev S4x8192x3 : Shape := ⟨3, ![4, 8192, 3]⟩
abbrev S4x2048x3 : Shape := ⟨3, ![4, 2048, 3]⟩
abbrev S_ : Shape := ⟨0, ![]⟩
abbrev S4x8192 : Shape := ⟨2, ![4, 8192]⟩
abbrev S4x8192x1 : Shape := ⟨3, ![4, 8192, 1]⟩
abbrev S4x8192x2048 : Shape := ⟨3, ![4, 8192, 2048]⟩
abbrev S4x2048 : Shape := ⟨2, ![4, 2048]⟩
abbrev S4x1x2048 : Shape := ⟨3, ![4, 1, 2048]⟩
abbrev S4x2048x256 : Shape := ⟨3, ![4, 2048, 256]⟩
abbrev S4x8192x3x1 : Shape := ⟨4, ![4, 8192, 3, 1]⟩
abbrev S4x8192x3x256 : Shape := ⟨4, ![4, 8192, 3, 256]⟩
abbrev S4x8192x256 : Shape := ⟨3, ![4, 8192, 256]⟩
abbrev S4x256x8192 : Shape := ⟨3, ![4, 256, 8192]⟩
abbrev S4x384x8192 : Shape := ⟨3, ![4, 384, 8192]⟩
abbrev S1x256x1 : Shape := ⟨3, ![1, 256, 1]⟩
abbrev S4x8192x128 : Shape := ⟨3, ![4, 8192, 128]⟩
abbrev S1x128x1 : Shape := ⟨3, ![1, 128, 1]⟩

abbrev nBuf : Space → Nat
  | .hbm => 166
  | .vmem => 0
  | .smem => 0
  | _ => 0

abbrev hbmTy0_0 (i : Nat) : BufTy := match i % 128 with
  | 0 => ⟨S4x3x8192, .f32⟩
  | 1 => ⟨S4x3x2048, .f32⟩
  | 2 => ⟨S4x128x8192, .f32⟩
  | 3 => ⟨S4x256x2048, .f32⟩
  | 4 => ⟨S256x384, .f32⟩
  | 5 => ⟨S256, .f32⟩
  | 6 => ⟨S256, .f32⟩
  | 7 => ⟨S256, .f32⟩
  | 8 => ⟨S128x256, .f32⟩
  | 9 => ⟨S128, .f32⟩
  | 10 => ⟨S128, .f32⟩
  | 11 => ⟨S128, .f32⟩
  | 12 => ⟨S4x8192x3, .f32⟩
  | 13 => ⟨S4x2048x3, .f32⟩
  | 14 => ⟨S4x8192x3, .f32⟩
  | 15 => ⟨S_, .f32⟩
  | 16 => ⟨S4x8192, .f32⟩
  | 17 => ⟨S4x8192x1, .f32⟩
  | 18 => ⟨S4x8192x2048, .f32⟩
  | 19 => ⟨S_, .f32⟩
  | 20 => ⟨S4x8192x2048, .f32⟩
  | 21 => ⟨S4x8192x2048, .f32⟩
  | 22 => ⟨S4x8192x2048, .f32⟩
  | 23 => ⟨S4x8192x2048, .f32⟩
  | 24 => ⟨S4x2048x3, .f32⟩
  | 25 => ⟨S_, .f32⟩
  | 26 => ⟨S4x2048, .f32⟩
  | 27 => ⟨S4x1x2048, .f32⟩
  | 28 => ⟨S4x8192x2048, .f32⟩
  | 29 => ⟨S4x8192x2048, .f32⟩
  | 30 => ⟨S4x8192x2048, .f32⟩
  | 31 => ⟨S4x8192x3, .f32⟩
  | 32 => ⟨S4x8192x3, .i32⟩
  | 33 => ⟨S4x8192x3, .f32⟩
  | 34 => ⟨S_, .f32⟩
  | 35 => ⟨S4x8192x3, .f32⟩
  | 36 => ⟨S4x8192x3, .f32⟩
  | 37 => ⟨S_, .f32⟩
  | 38 => ⟨S4x8192x3, .f32⟩
  | 39 => ⟨S4x8192x3, .f32⟩
  | 40 => ⟨S_, .f32⟩
  | 41 => ⟨S4x8192, .f32⟩
  | 42 => ⟨S4x8192x1, .f32⟩
  | 43 => ⟨S4x8192x3, .f32⟩
  | 44 => ⟨S4x8192x3, .f32⟩
  | 45 => ⟨S4x2048x256, .f32⟩
  | 46 => ⟨S_, .i32⟩
  | 47 => ⟨S4x8192x3, .i32⟩
  | 48 => ⟨S4x8192x3, .i1⟩
  | 49 => ⟨S_, .i32⟩
  | 50 => ⟨S4x8192x3, .i32⟩
  | 51 => ⟨S4x8192x3, .i32⟩
  | 52 => ⟨S4x8192x3, .i32⟩
  | 53 => ⟨S4x8192x3x1, .i32⟩
  | 54 => ⟨S4x8192x3x256, .f32⟩
  | 55 => ⟨S4x8192x3x1, .f32⟩
  | 56 => ⟨S4x8192x3x256, .f32⟩
  | 57 => ⟨S4x8192x3x256, .f32⟩
  | 58 => ⟨S_, .f32⟩
  | 59 => ⟨S4x8192x256, .f32⟩
  | 60 => ⟨S4x256x8192, .f32⟩
  | 61 => ⟨S4x384x8192, .f32⟩
  | 62 => ⟨S4x8192x256, .f32⟩
  | 63 => ⟨S4x256x8192, .f32⟩
  | 64 => ⟨S1x256x1, .f32⟩
  | 65 => ⟨S4x256x8192, .f32⟩
  | 66 => ⟨S4x256x8192, .f32⟩
  | 67 => ⟨S_, .f32⟩
  | 68 => ⟨S256, .f32⟩
  | 69 => ⟨S1x256x1, .f32⟩
  | 70 => ⟨S_, .f32⟩
  | 71 => ⟨S1x256x1, .f32⟩
  | 72 => ⟨S1x256x1, .f32⟩
  | 73 => ⟨S_, .i32⟩
  | 74 => ⟨S_, .f32⟩
  | 75 => ⟨S256, .f32⟩
  | 76 => ⟨S1x256x1, .f32⟩
  | 77 => ⟨S_, .f32⟩
  | 78 => ⟨S1x256x1, .f32⟩
  | 79 => ⟨S1x256x1, .f32⟩
  | 80 => ⟨S4x256x8192, .f32⟩
  | 81 => ⟨S4x256x8192, .f32⟩
  | 82 => ⟨S4x256x8192, .f32⟩
  | 83 => ⟨S_, .f32⟩
  | 84 => ⟨S_, .f32⟩
  | 85 => ⟨S_, .f32⟩
  | 86 => ⟨S_, .f32⟩
  | 87 => ⟨S256, .f32⟩
  | 88 => ⟨S1x256x1, .f32⟩
  | 89 => ⟨S1x256x1, .f32⟩
  | 90 => ⟨S1x256x1, .f32⟩
  | 91 => ⟨S_, .f32⟩
  | 92 => ⟨S_, .i1⟩
  | 93 => ⟨S_, .f32⟩
  | 94 => ⟨S_, .f32⟩
  | 95 => ⟨S1x256x1, .f32⟩
  | 96 => ⟨S1x256x1, .f32⟩
  | 97 => ⟨S4x256x8192, .f32⟩
  | 98 => ⟨S4x256x8192, .f32⟩
  | 99 => ⟨S_, .f32⟩
  | 100 => ⟨S1x256x1, .f32⟩
  | 101 => ⟨S1x256x1, .f32⟩
  | 102 => ⟨S1x256x1, .f32⟩
  | 103 => ⟨S4x256x8192, .f32⟩
  | 104 => ⟨S4x256x8192, .f32⟩
  | 105 => ⟨S1x256x1, .f32⟩
  | 106 => ⟨S4x256x8192, .f32⟩
  | 107 => ⟨S4x256x8192, .f32⟩
  | 108 => ⟨S1x256x1, .f32⟩
  | 109 => ⟨S4x256x8192, .f32⟩
  | 110 => ⟨S4x256x8192, .f32⟩
  | 111 => ⟨S_, .f32⟩
  | 112 => ⟨S4x256x8192, .f32⟩
  | 113 => ⟨S4x256x8192, .f32⟩
  | 114 => ⟨S4x8192x128, .f32⟩
  | 115 => ⟨S4x128x8192, .f32⟩
  | 116 => ⟨S1x128x1, .f32⟩
  | 117 => ⟨S4x128x8192, .f32⟩
  | 118 => ⟨S4x128x8192, .f32⟩
  | 119 => ⟨S_, .f32⟩
  | 120 => ⟨S128, .f32⟩
  | 121 => ⟨S1x128x1, .f32⟩
  | 122 => ⟨S_, .f32⟩
  | 123 => ⟨S1x128x1, .f32⟩
  | 124 => ⟨S1x128x1, .f32⟩
  | 125 => ⟨S_, .i32⟩
  | 126 => ⟨S_, .f32⟩
  | 127 => ⟨S128, .f32⟩
  | _ => ⟨S4x3x8192, .f32⟩

abbrev hbmTy0_1 (i : Nat) : BufTy := match i % 128 with
  | 0 => ⟨S1x128x1, .f32⟩
  | 1 => ⟨S_, .f32⟩
  | 2 => ⟨S1x128x1, .f32⟩
  | 3 => ⟨S1x128x1, .f32⟩
  | 4 => ⟨S4x128x8192, .f32⟩
  | 5 => ⟨S4x128x8192, .f32⟩
  | 6 => ⟨S4x128x8192, .f32⟩
  | 7 => ⟨S_, .f32⟩
  | 8 => ⟨S_, .f32⟩
  | 9 => ⟨S_, .f32⟩
  | 10 => ⟨S_, .f32⟩
  | 11 => ⟨S128, .f32⟩
  | 12 => ⟨S1x128x1, .f32⟩
  | 13 => ⟨S1x128x1, .f32⟩
  | 14 => ⟨S1x128x1, .f32⟩
  | 15 => ⟨S_, .f32⟩
  | 16 => ⟨S_, .i1⟩
  | 17 => ⟨S_, .f32⟩
  | 18 => ⟨S_, .f32⟩
  | 19 => ⟨S1x128x1, .f32⟩
  | 20 => ⟨S1x128x1, .f32⟩
  | 21 => ⟨S4x128x8192, .f32⟩
  | 22 => ⟨S4x128x8192, .f32⟩
  | 23 => ⟨S_, .f32⟩
  | 24 => ⟨S1x128x1, .f32⟩
  | 25 => ⟨S1x128x1, .f32⟩
  | 26 => ⟨S1x128x1, .f32⟩
  | 27 => ⟨S4x128x8192, .f32⟩
  | 28 => ⟨S4x128x8192, .f32⟩
  | 29 => ⟨S1x128x1, .f32⟩
  | 30 => ⟨S4x128x8192, .f32⟩
  | 31 => ⟨S4x128x8192, .f32⟩
  | 32 => ⟨S1x128x1, .f32⟩
  | 33 => ⟨S4x128x8192, .f32⟩
  | 34 => ⟨S4x128x8192, .f32⟩
  | 35 => ⟨S_, .f32⟩
  | 36 => ⟨S4x128x8192, .f32⟩
  | 37 => ⟨S4x128x8192, .f32⟩
  | _ => ⟨S4x3x8192, .f32⟩

abbrev hbmTy (i : Nat) : BufTy := match i / 128 with
  | 0 => hbmTy0_0 i
  | 1 => hbmTy0_1 i
  | _ => ⟨S4x3x8192, .f32⟩

abbrev bufTy : (tb : Table) → Fin (tcTables nBuf tb) → BufTy
  | .hbm, ⟨i, _⟩ => hbmTy i
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_values : Ref sig .tc := ⟨.hbm, 31, rfl⟩
abbrev main_indices : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_v12 : Ref sig .tc := ⟨.hbm, 90, rfl⟩
abbrev main_call0_cst_3 : Ref sig .tc := ⟨.hbm, 91, rfl⟩
abbrev main_call0_v13 : Ref sig .tc := ⟨.hbm, 92, rfl⟩
abbrev main_call0_cst_4 : Ref sig .tc := ⟨.hbm, 93, rfl⟩
abbrev main_call0_call0_v0 : Ref sig .tc := ⟨.hbm, 94, rfl⟩
abbrev main_call0_call0_v1 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_10 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_call1_cst : Ref sig .tc := ⟨.hbm, 111, rfl⟩
abbrev main_call1_v0 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_11 : Ref sig .tc := ⟨.hbm, 119, rfl⟩
abbrev main_v68 : Ref sig .tc := ⟨.hbm, 120, rfl⟩
abbrev main_v69 : Ref sig .tc := ⟨.hbm, 121, rfl⟩
abbrev main_cst_12 : Ref sig .tc := ⟨.hbm, 122, rfl⟩
abbrev main_v70 : Ref sig .tc := ⟨.hbm, 123, rfl⟩
abbrev main_v71 : Ref sig .tc := ⟨.hbm, 124, rfl⟩
abbrev main_c_13 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_cst_3 : Ref sig .tc := ⟨.hbm, 143, rfl⟩
abbrev main_call2_v13 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_14 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_call3_cst : Ref sig .tc := ⟨.hbm, 163, rfl⟩
abbrev main_call3_v0 : Ref sig .tc := ⟨.hbm, 164, rfl⟩
abbrev main_v86 : Ref sig .tc := ⟨.hbm, 165, rfl⟩

abbrev nD : Nat := 1
abbrev τ : Topo := Topo.v7x

variable {F : FTy → Type} [FloatOps F]
-- ==== Proof.Lits.lean ====
/- The float constants of the two programs, read as extended reals, and the small arithmetic of coerced reals the other
   modules share. -/
module

public import Idealize.ShloMosaic.PureOps
public import Idealize.ShloMosaic.PureOps.Ideal.Laws
public import Idealize.ShloMosaic.Lib.Pipeline.Value
public import Idealize.ShloMosaic.Lib.ValueIdx

@[expose] public section

noncomputable section

namespace Cert.Knn

open Idealize.ShloMosaic

/-- The small constant added to a squared distance before it is inverted. -/
def epsD : ℝ := 11258999 / 2 ^ 50

/-- The small constant added to a variance before its root is taken. -/
def epsV : ℝ := 10995116 / 2 ^ 40

/-- The distance constant is positive. -/
theorem epsD_pos : 0 < epsD := by unfold epsD; positivity
/-- The variance constant is positive. -/
theorem epsV_pos : 0 < epsV := by unfold epsV; positivity

/-- The pattern of positive infinity is the top. -/
theorem lit_top : Ideal.ofBits .f32 0x7F800000#32 = (⊤ : EReal) := by
  simp [Ideal.ofBits, Ideal.ieee, -EReal.coe_mul]

/-- The zero pattern is zero. -/
theorem lit_zero : Ideal.ofBits .f32 0x00000000#32 = ((0 : ℝ) : EReal) := by
  simp [Ideal.ofBits, Ideal.ieee, -EReal.coe_mul]

/-- The pattern of one. -/
theorem lit_one : Ideal.ofBits .f32 0x3F800000#32 = ((1 : ℝ) : EReal) := by
  simp [Ideal.ofBits, Ideal.ieee, -EReal.coe_mul]; norm_num

/-- The pattern of two. -/
theorem lit_two : Ideal.ofBits .f32 0x40000000#32 = ((2 : ℝ) : EReal) := by
  simp [Ideal.ofBits, Ideal.ieee, -EReal.coe_mul]; norm_num

/-- The pattern of the number of rows, 32768. -/
theorem lit_rows : Ideal.ofBits .f32 0x47000000#32 = ((32768 : ℝ) : EReal) := by
  simp [Ideal.ofBits, Ideal.ieee, -EReal.coe_mul]; norm_num

/-- The pattern of the distance constant. -/
theorem lit_epsD : Ideal.ofBits .f32 0x322BCC77#32 = ((epsD : ℝ) : EReal) := by
  simp [Ideal.ofBits, Ideal.ieee, epsD, -EReal.coe_mul]; norm_num

/-- The pattern of the variance constant. -/
theorem lit_epsV : Ideal.ofBits .f32 0x3727C5AC#32 = ((epsV : ℝ) : EReal) := by
  simp [Ideal.ofBits, Ideal.ieee, epsV, -EReal.coe_mul]; norm_num

/-- A finite sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum whose terms are coerced reals, term by term. -/
theorem sum_coe {ι : Type} [Fintype ι] (g : ι → EReal) (f : ι → ℝ) (h : ∀ i, g i = ((f i : ℝ) : EReal)) :
    (∑ i, g i) = ((∑ i, f i : ℝ) : EReal) := by
  rw [← coe_sum]; exact Finset.sum_congr rfl fun i _ => h i

/-- The quotient of coerced reals by a nonzero real. -/
theorem div_real (x y : ℝ) (hy : y ≠ 0) : Ideal.div (x : EReal) (y : EReal) = ((x / y : ℝ) : EReal) := by
  rw [Ideal.div_coe hy, ← EReal.coe_mul]; congr 1; field_simp

end Cert.Knn

end
-- ==== Proof.RowSel.lean ====
/- The three smallest entries of a row, in the order of a stable sort: what three rounds of "take the minimum, take its first
   position, mask it" find, and what sorting finds. -/
module

public import Idealize.ShloMosaic.PureOps
public import Idealize.ShloMosaic.Lib.SortFacts
public import Idealize.ShloMosaic.PureOps.Ideal.Laws

@[expose] public section

noncomputable section

namespace Cert.Knn

open Idealize.ShloMosaic

/-- Position `a` comes before position `b`: its entry is smaller, or equal at a smaller position. -/
def Before {n : Nat} (f : Fin n → EReal) (a b : Fin n) : Prop := f a < f b ∨ (f a = f b ∧ a < b)

/-- `Before` is transitive. -/
theorem Before.trans {n : Nat} {f : Fin n → EReal} {a b c : Fin n} (h : Before f a b) (h' : Before f b c) : Before f a c := by
  rcases h with h | ⟨h, k⟩ <;> rcases h' with h' | ⟨h', k'⟩
  · exact Or.inl (h.trans h')
  · exact Or.inl (h'  ▸ h)
  · exact Or.inl (h ▸ h')
  · exact Or.inr ⟨h.trans h', k.trans k'⟩

/-- Inserting a position smaller than all those already placed keeps the list in order. -/
theorem before_insert {n : Nat} (f : Fin n → EReal) (R : Fin n → Fin n → Bool) (hR : ∀ a b, R a b = true ↔ f a < f b)
    (a : Fin n) (l : List (Fin n)) (ha : ∀ b ∈ l, a < b) (hl : l.Pairwise (Before f)) :
    (insertBefore R a l).Pairwise (Before f) := by
  induction l with
  | nil => exact List.pairwise_singleton _ _
  | cons b l ih =>
    obtain ⟨hb, hl'⟩ := List.pairwise_cons.mp hl
    have hab : a < b := ha b List.mem_cons_self
    unfold insertBefore
    split
    · rename_i h
      refine List.pairwise_cons.mpr ⟨fun c hc => ?_, ih (fun c hc => ha c (List.mem_cons_of_mem _ hc)) hl'⟩
      rcases List.mem_cons.mp ((perm_insertBefore R a l).mem_iff.mp hc) with rfl | hc'
      · exact Or.inl ((hR _ _).mp h)
      · exact hb c hc'
    · rename_i h
      have hle : f a ≤ f b := not_lt.mp fun k => h ((hR _ _).mpr k)
      have first : Before f a b := hle.lt_or_eq.imp id fun e => ⟨e, hab⟩
      refine List.pairwise_cons.mpr ⟨fun c hc => ?_, hl⟩
      rcases List.mem_cons.mp hc with rfl | hc'
      · exact first
      · exact first.trans (hb c hc')

/-- The stable sort of an increasing list of positions is in order. -/
theorem before_sort {n : Nat} (f : Fin n → EReal) (R : Fin n → Fin n → Bool) (hR : ∀ a b, R a b = true ↔ f a < f b)
    (l : List (Fin n)) (hl : l.Pairwise (· < ·)) : (stableSort R l).Pairwise (Before f) := by
  induction l with
  | nil => exact List.Pairwise.nil
  | cons a l ih =>
    obtain ⟨ha, hl'⟩ := List.pairwise_cons.mp hl
    unfold stableSort
    exact before_insert f R hR a _ (fun b hb => ha b ((perm_stableSort R l).mem_iff.mp hb)) (ih hl')

/-- Earlier places of the sorted row hold positions that come before. -/
theorem before_sortedFrom {n : Nat} (f : Fin n → EReal) (R : Fin n → Fin n → Bool) (hR : ∀ a b, R a b = true ↔ f a < f b)
    {i j : Fin n} (hij : i < j) : Before f (sortedFrom R i) (sortedFrom R j) := by
  have hp : ∀ a b : Fin (sortPositions n R).length, a < b →
      Before f ((sortPositions n R).get a) ((sortPositions n R).get b) :=
    List.pairwise_iff_get.mp (before_sort f R hR (List.finRange n) (List.pairwise_lt_finRange n))
  unfold sortedFrom
  exact hp _ _ (by simp only [Fin.lt_def, Fin.val_cast]; exact hij)

/-- Position `a` holds the first least entry of the row. -/
def First {n : Nat} (f : Fin n → EReal) (a : Fin n) : Prop := ∀ s, f a ≤ f s ∧ (f s = f a → a ≤ s)

/-- The row with position `a` set to the top. -/
def mask {n : Nat} (f : Fin n → EReal) (a : Fin n) : Fin n → EReal := fun s => if s = a then ⊤ else f s

/-- A position before all others of a row is its first least. -/
theorem first_of_before {n : Nat} (f : Fin n → EReal) (a : Fin n) (h : ∀ s, s ≠ a → Before f a s) : First f a := by
  intro s
  by_cases hs : s = a
  · subst hs; exact ⟨le_rfl, fun _ => le_rfl⟩
  · rcases h s hs with k | ⟨k, k'⟩
    · exact ⟨k.le, fun e => absurd e k.ne'⟩
    · exact ⟨k.le, fun _ => k'.le⟩

/-- The first place of the sorted row holds the first least entry. -/
theorem first_zero {n : Nat} (f : Fin (n + 3) → EReal) (R : Fin (n + 3) → Fin (n + 3) → Bool)
    (hR : ∀ a b, R a b = true ↔ f a < f b) : First f (sortedFrom R 0) := by
  refine first_of_before f _ fun s hs => ?_
  obtain ⟨j, rfl⟩ := sortedFrom_surjective R s
  exact before_sortedFrom f R hR (Fin.pos_of_ne_zero fun e => hs (by rw [e]))

/-- With the first place masked, the second place holds the first least entry. -/
theorem first_one {n : Nat} (f : Fin (n + 3) → EReal) (R : Fin (n + 3) → Fin (n + 3) → Bool)
    (hR : ∀ a b, R a b = true ↔ f a < f b) (ht : ∀ s, f s ≠ ⊤) :
    First (mask f (sortedFrom R 0)) (sortedFrom R 1) := by
  have hne : sortedFrom R 1 ≠ sortedFrom R 0 := fun e => absurd (sortedFrom_injective R e) (by simp)
  refine first_of_before _ _ fun s hs => ?_
  obtain ⟨j, rfl⟩ := sortedFrom_surjective R s
  unfold Before mask
  rw [if_neg hne]
  by_cases hj : j = 0
  · subst hj; rw [if_pos rfl]; exact Or.inl (lt_of_le_of_ne le_top (ht _))
  · rw [if_neg fun e => hj (sortedFrom_injective R e)]
    refine before_sortedFrom f R hR ?_
    have h1 : j ≠ 1 := fun e => hs (by rw [e])
    have : (j : ℕ) ≠ 0 := fun e => hj (Fin.ext e)
    have : (j : ℕ) ≠ 1 := fun e => h1 (Fin.ext e)
    rw [Fin.lt_def]; show 1 < (j : ℕ); omega

/-- With the first two places masked, the third place holds the first least entry. -/
theorem first_two {n : Nat} (f : Fin (n + 3) → EReal) (R : Fin (n + 3) → Fin (n + 3) → Bool)
    (hR : ∀ a b, R a b = true ↔ f a < f b) (ht : ∀ s, f s ≠ ⊤) :
    First (mask (mask f (sortedFrom R 0)) (sortedFrom R 1)) (sortedFrom R 2) := by
  have inj := sortedFrom_injective R
  have h20 : sortedFrom R 2 ≠ sortedFrom R 0 := fun e => absurd (congrArg Fin.val (inj e)) (by show ¬ 2 % (n + 3) = 0; rw [Nat.mod_eq_of_lt (by omega)]; omega)
  have h21 : sortedFrom R 2 ≠ sortedFrom R 1 := fun e => absurd (congrArg Fin.val (inj e)) (by show ¬ 2 % (n + 3) = 1 % (n + 3); rw [Nat.mod_eq_of_lt (by omega), Nat.mod_eq_of_lt (by omega)]; omega)
  refine first_of_before _ _ fun s hs => ?_
  obtain ⟨j, rfl⟩ := sortedFrom_surjective R s
  unfold Before mask
  rw [if_neg h21, if_neg h20]
  by_cases hj1 : j = 1
  · subst hj1; rw [if_pos rfl]; exact Or.inl (lt_of_le_of_ne le_top (ht _))
  rw [if_neg fun e => hj1 (inj e)]
  by_cases hj : j = 0
  · subst hj; rw [if_pos rfl]; exact Or.inl (lt_of_le_of_ne le_top (ht _))
  rw [if_neg fun e => hj (inj e)]
  refine before_sortedFrom f R hR ?_
  have h2 : j ≠ 2 := fun e => hs (by rw [e])
  have : (j : ℕ) ≠ 0 := fun e => hj (Fin.ext e)
  have : (j : ℕ) ≠ 1 := fun e => hj1 (Fin.ext (by show (j : ℕ) = 1 % (n + 3); rw [Nat.mod_eq_of_lt (by omega)]; exact e))
  have : (j : ℕ) ≠ 2 := fun e => h2 (Fin.ext (by show (j : ℕ) = 2 % (n + 3); rw [Nat.mod_eq_of_lt (by omega)]; exact e))
  rw [Fin.lt_def]; show 2 % (n + 3) < (j : ℕ); rw [Nat.mod_eq_of_lt (by omega)]; omega

/-- The minimum of a row is the entry of its first least position. -/
theorem min_first {n : Nat} (f : Fin n → EReal) (a : Fin n) (h : First f a) :
    Finset.univ.fold (min : EReal → EReal → EReal) ⊤ f = f a := by
  refine le_antisymm ?_ ?_
  · exact (Finset.fold_min_le _).mpr (Or.inr ⟨a, Finset.mem_univ _, le_rfl⟩)
  · exact (Finset.le_fold_min _).mpr ⟨le_top, fun s _ => (h s).1⟩

/-- A small index, read signed. -/
theorem toInt_small (k : Nat) (h : k ≤ 2048) : (BitVec.ofNat 32 k).toInt = k := by
  rw [BitVec.toInt_eq_toNat_of_lt] <;> simp only [BitVec.toNat_ofNat] <;> omega

/-- Small indices are told apart by their words. -/
theorem ofNat_inj (a b : Fin 2048) : BitVec.ofNat 32 a.val = BitVec.ofNat 32 b.val ↔ a = b := by
  refine ⟨fun h => Fin.ext ?_, fun h => h ▸ rfl⟩
  have := congrArg BitVec.toNat h
  simp only [BitVec.toNat_ofNat] at this
  omega

/-- The signed minimum, read signed. -/
theorem toInt_minsi (a b : BitVec 32) : (IntOp.minsi a b).toInt = min a.toInt b.toInt := by
  unfold IntOp.minsi
  simp only [BitVec.sle, BitVec.slt]
  split <;> simp_all <;> omega

/-- The least index whose entry is at most the minimum is the first least position. -/
theorem arg_first (f : Fin 2048 → EReal) (a : Fin 2048) (h : First f a) (g : Fin 2048 → BitVec 32)
    (hle : ∀ s, f s ≤ f a → g s = BitVec.ofNat 32 s.val) (hgt : ∀ s, ¬ f s ≤ f a → g s = 2048#32) :
    Finset.univ.fold IntOp.minsi 2147483647#32 g = BitVec.ofNat 32 a.val := by
  refine BitVec.eq_of_toInt_eq ?_
  rw [← Finset.fold_hom (op' := (min : ℤ → ℤ → ℤ)) (m := BitVec.toInt) (fun x y => toInt_minsi x y)]
  have key : ∀ s, (a.val : ℤ) ≤ (g s).toInt := fun s => by
    by_cases hs : f s ≤ f a
    · rw [hle s hs, toInt_small _ (by omega)]
      exact_mod_cast (h s).2 (le_antisymm hs (h s).1)
    · rw [hgt s hs, show (2048#32 : BitVec 32) = BitVec.ofNat 32 2048 from rfl, toInt_small _ le_rfl]; exact_mod_cast a.isLt.le
  have ha : (g a).toInt = a.val := by rw [hle a le_rfl, toInt_small _ (by omega)]
  have hi : (2147483647#32 : BitVec 32).toInt = 2147483647 := by decide
  have hlt := a.isLt
  rw [toInt_small a.val (by omega), hi]
  refine le_antisymm ?_ ?_
  · exact (Finset.fold_min_le _).mpr (Or.inr ⟨a, Finset.mem_univ _, ha.le⟩)
  · refine (Finset.le_fold_min _).mpr ⟨?_, fun s _ => key s⟩
    omega

/-- The same for a row `g` and a minimum `m` that are known to be `f` and its least entry. -/
theorem round_arg (f : Fin 2048 → EReal) (a : Fin 2048) (h : First f a) (g : Fin 2048 → EReal) (m : EReal)
    [∀ s, Decidable (g s ≤ m)] (hg : ∀ s, g s = f s) (hm : m = f a) :
    Finset.univ.fold IntOp.minsi 2147483647#32 (fun s : Fin 2048 => if g s ≤ m then BitVec.ofNat 32 s.val else 2048#32)
      = BitVec.ofNat 32 a.val := by
  refine arg_first f a h _ (fun s k => if_pos ?_) (fun s k => if_neg ?_)
  · rw [hg, hm]; exact k
  · rw [hg, hm]; exact k

/-- The fold of `min` over a row `g` known to be `f`. -/
theorem round_min (f : Fin 2048 → EReal) (a : Fin 2048) (h : First f a) (g : Fin 2048 → EReal) (hg : ∀ s, g s = f s) :
    Finset.univ.fold (min : EReal → EReal → EReal) ⊤ g = f a := by
  rw [show g = f from funext hg]; exact min_first f a h

end Cert.Knn

end
-- ==== Proof.Spec.lean ====
/- The mathematics both programs compute, over the reals: squared distances, the three nearest points, their weights, the
   interpolated features, and the two batch-normalised layers. -/
module

public import proofs.«01_k».proof.Proof.Lits
public import proofs.«01_k».proof.Proof.RowSel

@[expose] public section

noncomputable section

namespace Cert.Knn

open Idealize.ShloMosaic

/-- The squared distance of a point `a` to the `s`-th point of `B`, as both programs expand it. -/
def dist (a : Fin 3 → ℝ) (B : Fin 3 → Fin 2048 → ℝ) (s : Fin 2048) : ℝ :=
  (∑ k, a k * a k) - 2 * (∑ k, a k * B k s) + ∑ k, B k s * B k s

/-- A squared distance is not negative. -/
theorem dist_nonneg (a : Fin 3 → ℝ) (B : Fin 3 → Fin 2048 → ℝ) (s : Fin 2048) : 0 ≤ dist a B s := by
  have : dist a B s = ∑ k, (a k - B k s) * (a k - B k s) := by
    unfold dist; simp only [Fin.sum_univ_three]; ring
  rw [this]; exact Finset.sum_nonneg fun k _ => mul_self_nonneg _

open Classical in
/-- The comparison that sorts a row ascending. -/
def less (d : Fin 2048 → ℝ) (a b : Fin 2048) : Bool := decide (d a < d b)

/-- The position of the `j`-th smallest entry of a row, the earlier first of equal ones. -/
def sel (d : Fin 2048 → ℝ) (j : Fin 3) : Fin 2048 := sortedFrom (less d) (Fin.castLE (by omega) j)

/-- The inverse of the `j`-th smallest distance. -/
def rcp (d : Fin 2048 → ℝ) (j : Fin 3) : ℝ := 1 / (d (sel d j) + epsD)

/-- The sum of the three inverses. -/
def nrm (d : Fin 2048 → ℝ) : ℝ := rcp d 0 + rcp d 1 + rcp d 2

/-- The weight of the `j`-th nearest point. -/
def wgt (d : Fin 2048 → ℝ) (j : Fin 3) : ℝ := rcp d j / nrm d

/-- The three weights laid out along the row. -/
def wrow (d : Fin 2048 → ℝ) (s : Fin 2048) : ℝ :=
  (if s = sel d 0 then wgt d 0 else 0) + (if s = sel d 1 then wgt d 1 else 0) + (if s = sel d 2 then wgt d 2 else 0)

/-- The weighted sum of a feature at the three nearest points. -/
def itp (d : Fin 2048 → ℝ) (f : Fin 2048 → ℝ) : ℝ := ∑ j, f (sel d j) * wgt d j

/-- Summing against the laid-out weights is the weighted sum at the three points. -/
theorem sum_wrow (d f : Fin 2048 → ℝ) : (∑ s, wrow d s * f s) = itp d f := by
  unfold wrow itp
  simp only [add_mul, ite_mul, zero_mul, Finset.sum_add_distrib, Finset.sum_ite_eq', Finset.mem_univ, if_true,
    Fin.sum_univ_three]
  ring

/-- A distance plus the small constant is positive. -/
theorem shifted_pos {d : Fin 2048 → ℝ} (hd : ∀ s, 0 ≤ d s) (s : Fin 2048) : 0 < d s + epsD :=
  add_pos_of_nonneg_of_pos (hd s) epsD_pos

/-- An inverse distance is positive. -/
theorem rcp_pos {d : Fin 2048 → ℝ} (hd : ∀ s, 0 ≤ d s) (j : Fin 3) : 0 < rcp d j :=
  one_div_pos.mpr (shifted_pos hd _)

/-- Their sum is positive. -/
theorem nrm_pos {d : Fin 2048 → ℝ} (hd : ∀ s, 0 ≤ d s) : 0 < nrm d :=
  add_pos (add_pos (rcp_pos hd 0) (rcp_pos hd 1)) (rcp_pos hd 2)

/-- The comparison over the coerced row. -/
theorem less_iff (d : Fin 2048 → ℝ) (a b : Fin 2048) : less d a b = true ↔ ((d a : ℝ) : EReal) < ((d b : ℝ) : EReal) := by
  unfold less; rw [decide_eq_true_iff, EReal.coe_lt_coe_iff]

/-- The mean over all rows. -/
def mean (h : Fin 4 → Fin 8192 → ℝ) : ℝ := (∑ b, ∑ n, h b n) / 32768

/-- The variance over all rows, as the mean of squares less the squared mean. -/
def vari (h : Fin 4 → Fin 8192 → ℝ) : ℝ := (∑ b, ∑ n, h b n * h b n) / 32768 - mean h * mean h

/-- It is the mean of the squared deviations. -/
theorem vari_eq (h : Fin 4 → Fin 8192 → ℝ) :
    (∑ b, ∑ n, (h b n - mean h) * (h b n - mean h)) / 32768 = vari h := by
  have e : ∀ b n, (h b n - mean h) * (h b n - mean h) = h b n * h b n - 2 * mean h * h b n + mean h * mean h :=
    fun b n => by ring
  have hm : (∑ b, ∑ n, h b n) = 32768 * mean h := by unfold mean; ring
  simp only [e, Finset.sum_add_distrib, Finset.sum_sub_distrib, ← Finset.mul_sum, Finset.sum_const, Finset.card_univ,
    Fintype.card_fin, hm]
  unfold vari
  simp only [nsmul_eq_mul]
  push_cast
  ring

/-- The variance is not negative. -/
theorem vari_nonneg (h : Fin 4 → Fin 8192 → ℝ) : 0 ≤ vari h := by
  rw [← vari_eq]
  exact div_nonneg (Finset.sum_nonneg fun b _ => Finset.sum_nonneg fun n _ => mul_self_nonneg _) (by norm_num)

/-- The root a deviation is divided by. -/
def root (h : Fin 4 → Fin 8192 → ℝ) : ℝ := Real.sqrt (vari h + epsV)

/-- What is under the root is positive. -/
theorem under_pos (h : Fin 4 → Fin 8192 → ℝ) : 0 < vari h + epsV := add_pos_of_nonneg_of_pos (vari_nonneg h) epsV_pos

/-- The root is positive. -/
theorem root_pos (h : Fin 4 → Fin 8192 → ℝ) : 0 < root h := Real.sqrt_pos.mpr (under_pos h)

/-- One normalised, scaled, shifted and rectified entry; scale and shift may be infinite. -/
def act (h : Fin 4 → Fin 8192 → ℝ) (x : ℝ) (g be : EReal) : EReal :=
  max ((((x - mean h) / root h : ℝ) : EReal) * g + be) ((0 : ℝ) : EReal)

/-- The same with a real scale and shift. -/
def actR (h : Fin 4 → Fin 8192 → ℝ) (x g be : ℝ) : ℝ := max ((x - mean h) / root h * g + be) 0

/-- With a real scale and shift the entry is real. -/
theorem act_coe (h : Fin 4 → Fin 8192 → ℝ) (x g be : ℝ) : act h x g be = ((actR h x g be : ℝ) : EReal) := by
  unfold act actR
  rw [← EReal.coe_mul, ← EReal.coe_add]; exact (EReal.coe_strictMono.monotone.map_max).symm

/-- The inverse root, as the kernel takes it. -/
theorem rsqrt_under (h : Fin 4 → Fin 8192 → ℝ) :
    Ideal.rsqrt ((vari h : EReal) + ((epsV : ℝ) : EReal)) = (((root h)⁻¹ : ℝ) : EReal) := by
  rw [← EReal.coe_add, Ideal.rsqrt_coe, if_neg (not_lt.mpr (under_pos h).le), if_neg (under_pos h).ne']; rfl

/-- The root, as the reference takes it. -/
theorem sqrt_under (h : Fin 4 → Fin 8192 → ℝ) :
    Ideal.sqrt ((vari h : EReal) + ((epsV : ℝ) : EReal)) = ((root h : ℝ) : EReal) := by
  rw [← EReal.coe_add, Ideal.sqrt_coe]
  first
    | rfl
    | rw [if_neg (not_lt.mpr (under_pos h).le)]; rfl

/-- The kernel's scaling folds the inverse root into the scale first. -/
theorem act_kernel (h : Fin 4 → Fin 8192 → ℝ) (x : ℝ) (g be : EReal) :
    max (((x : EReal) - ((mean h : ℝ) : EReal)) * (g * Ideal.rsqrt ((vari h : EReal) + ((epsV : ℝ) : EReal))) + be)
      ((0 : ℝ) : EReal) = act h x g be := by
  unfold act
  rw [rsqrt_under, ← EReal.coe_sub, mul_comm g, ← mul_assoc, ← EReal.coe_mul, ← div_eq_mul_inv]

/-- The reference divides the deviation by the root and then scales. -/
theorem act_reference (h : Fin 4 → Fin 8192 → ℝ) (x : ℝ) (g be : EReal) :
    max (Ideal.div ((x : EReal) - ((mean h : ℝ) : EReal)) (Ideal.sqrt ((vari h : EReal) + ((epsV : ℝ) : EReal))) * g + be)
      ((0 : ℝ) : EReal) = act h x g be := by
  unfold act
  rw [sqrt_under, ← EReal.coe_sub, div_real _ _ (root_pos h).ne']

/-- The real inputs. -/
structure Inp where
  p1 : Fin 4 → Fin 3 → Fin 8192 → ℝ
  p2 : Fin 4 → Fin 3 → Fin 2048 → ℝ
  f1 : Fin 4 → Fin 128 → Fin 8192 → ℝ
  f2 : Fin 4 → Fin 256 → Fin 2048 → ℝ
  W1 : Fin 256 → Fin 384 → ℝ
  b1 : Fin 256 → ℝ
  g1 : Fin 256 → ℝ
  be1 : Fin 256 → ℝ
  W2 : Fin 128 → Fin 256 → ℝ
  b2 : Fin 128 → ℝ

namespace Inp

variable (I : Inp)

/-- The row of squared distances of point `n` of batch `b`. -/
def d (b : Fin 4) (n : Fin 8192) : Fin 2048 → ℝ := dist (fun k => I.p1 b k n) (I.p2 b)

/-- The distances are not negative. -/
theorem d_nonneg (b : Fin 4) (n : Fin 8192) (s : Fin 2048) : 0 ≤ I.d b n s := dist_nonneg _ _ _

/-- The first layer before normalisation. -/
def h1 (b : Fin 4) (n : Fin 8192) (o : Fin 256) : ℝ :=
  (∑ i : Fin 128, I.f1 b i n * I.W1 o (Fin.castLE (by omega) i))
    + (∑ i : Fin 256, itp (I.d b n) (I.f2 b i) * I.W1 o ⟨128 + i.val, by omega⟩) + I.b1 o

/-- One column of the first layer. -/
def c1 (o : Fin 256) : Fin 4 → Fin 8192 → ℝ := fun b n => I.h1 b n o

/-- The first layer. -/
def z1 (b : Fin 4) (n : Fin 8192) (o : Fin 256) : ℝ := actR (I.c1 o) (I.h1 b n o) (I.g1 o) (I.be1 o)

/-- The second layer before normalisation. -/
def h2 (b : Fin 4) (n : Fin 8192) (o : Fin 128) : ℝ := (∑ i : Fin 256, I.z1 b n i * I.W2 o i) + I.b2 o

/-- One column of the second layer. -/
def c2 (o : Fin 128) : Fin 4 → Fin 8192 → ℝ := fun b n => I.h2 b n o

/-- The result, with the last scale and shift as they come. -/
def out (g2 be2 : Fin 128 → EReal) (b : Fin 4) (o : Fin 128) (n : Fin 8192) : EReal :=
  act (I.c2 o) (I.h2 b n o) (g2 o) (be2 o)

end Inp

end Cert.Knn

end
-- ==== Proof.Args.lean ====
/- The programs' arguments as arrays of extended reals that hold given values. -/
module

public import proofs.«01_k».proof.Proof.Spec
public import Idealize.ShloMosaic.Lib.Pointwise

@[expose] public section

noncomputable section

namespace Cert.Knn

open Idealize.ShloMosaic

/-- Twelve arrays that hold the argument values: the first ten real, the last two (the second layer's gain and offset) arbitrary. -/
structure Args (I : Inp) (g2 be2 : Fin 128 → EReal) (a0 : Vec Ideal ⟨3, ![4, 3, 8192]⟩ .f32) (a1 : Vec Ideal ⟨3, ![4, 3, 2048]⟩ .f32)
    (a2 : Vec Ideal ⟨3, ![4, 128, 8192]⟩ .f32) (a3 : Vec Ideal ⟨3, ![4, 256, 2048]⟩ .f32) (a4 : Vec Ideal ⟨2, ![256, 384]⟩ .f32) (a5 a6 a7 : Vec Ideal ⟨1, ![256]⟩ .f32)
    (a8 : Vec Ideal ⟨2, ![128, 256]⟩ .f32) (a9 a10 a11 : Vec Ideal ⟨1, ![128]⟩ .f32) : Prop where
  p1 : ∀ b k n, a0 (ix3 b k n) = ((I.p1 b k n : ℝ) : EReal)
  p2 : ∀ b k s, a1 (ix3 b k s) = ((I.p2 b k s : ℝ) : EReal)
  f1 : ∀ b i n, a2 (ix3 b i n) = ((I.f1 b i n : ℝ) : EReal)
  f2 : ∀ b i s, a3 (ix3 b i s) = ((I.f2 b i s : ℝ) : EReal)
  W1 : ∀ o i, a4 (ix2 o i) = ((I.W1 o i : ℝ) : EReal)
  b1 : ∀ o, a5 (ix1 o) = ((I.b1 o : ℝ) : EReal)
  g1 : ∀ o, a6 (ix1 o) = ((I.g1 o : ℝ) : EReal)
  be1 : ∀ o, a7 (ix1 o) = ((I.be1 o : ℝ) : EReal)
  W2 : ∀ o i, a8 (ix2 o i) = ((I.W2 o i : ℝ) : EReal)
  b2 : ∀ o, a9 (ix1 o) = ((I.b2 o : ℝ) : EReal)
  g2 : ∀ o, a10 (ix1 o) = g2 o
  be2 : ∀ o, a11 (ix1 o) = be2 o

end Cert.Knn

end
-- ==== Proof.Finite.lean ====
/- The precondition read: where it is met, the first ten arguments hold real numbers. -/
module

public import proofs.«01_k».proof.Proof.Args
public import proofs.«01_k».proof.Proof.Lits
public import proofs.«01_k».proof.Pre_finite
public import Idealize.ShloMosaic.Lib.ReduceAll
public import Idealize.ShloMosaic.Lib.Affine

@[expose] public section

noncomputable section

namespace Cert.Knn

open Idealize.ShloMosaic

/-- The shape relations the precondition's operations take. -/
theorem pre_facts : Cert.Pre_finite.Facts where
  bcast_S_S4x3x8192 := by decide
  reducesTo_S4x3x8192_S_d0_1_2 := by decide
  h_S_ := by decide
  bcast_S_S4x3x2048 := by decide
  reducesTo_S4x3x2048_S_d0_1_2 := by decide
  bcast_S_S4x128x8192 := by decide
  reducesTo_S4x128x8192_S_d0_1_2 := by decide
  bcast_S_S4x256x2048 := by decide
  reducesTo_S4x256x2048_S_d0_1_2 := by decide
  bcast_S_S256x384 := by decide
  reducesTo_S256x384_S_d0_1 := by decide
  bcast_S_S256 := by decide
  reducesTo_S256_S_d0 := by decide
  bcast_S_S128x256 := by decide
  reducesTo_S128x256_S_d0_1 := by decide
  bcast_S_S128 := by decide
  reducesTo_S128_S_d0 := by decide

/-- An extended real whose absolute value lies below the top is a real number. -/
theorem real_of_abs_lt (x : EReal) (h : max x (-x) < ⊤) : x = ((x.toReal : ℝ) : EReal) := by
  refine (EReal.coe_toReal (fun hx => ?_) (fun hx => ?_)).symm
  · subst hx; simp at h
  · subst hx; simp at h

/-- One array of the precondition: where every absolute value is found below positive infinity, every element is real. -/
theorem all_real {s : Shape} {axes : List (Fin s.rank)} (x : FVec Ideal s .f32) (hb : Cert.Pre_finite.S_.BroadcastsInDim s ![])
    (h : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) h hu j = 1#1)
    (i : s.Idx) : x i = (((x i).toReal : ℝ) : EReal) := by
  have : Subsingleton Cert.Pre_finite.S_.Idx := ⟨fun a b => funext fun d => d.elim0⟩
  have e' : Ideal.cmp .olt (max (x i) (-x i)) (Ideal.ofBits .f32 0x7F800000#32) = 1#1 := Host.reduce_andi_all _ _ h hu j e i
  rw [lit_top] at e'
  refine real_of_abs_lt _ ?_
  by_contra hn
  simp [Ideal.cmp, hn] at e'

/-- The conjunction of two one-bit scalars is one at an index exactly when both are. -/
theorem andi_split {a b : IVec Cert.Pre_finite.S_ 1} {j : Cert.Pre_finite.S_.Idx} (e : andi a b j = 1#1) : a j = 1#1 ∧ b j = 1#1 :=
  IntOp.andi_eq_one.1 e

/-- The values of ten arrays. -/
def inpOf (a0 : Vec Ideal ⟨3, ![4, 3, 8192]⟩ .f32) (a1 : Vec Ideal ⟨3, ![4, 3, 2048]⟩ .f32)
    (a2 : Vec Ideal ⟨3, ![4, 128, 8192]⟩ .f32) (a3 : Vec Ideal ⟨3, ![4, 256, 2048]⟩ .f32) (a4 : Vec Ideal ⟨2, ![256, 384]⟩ .f32)
    (a5 a6 a7 : Vec Ideal ⟨1, ![256]⟩ .f32) (a8 : Vec Ideal ⟨2, ![128, 256]⟩ .f32) (a9 : Vec Ideal ⟨1, ![128]⟩ .f32) : Inp where
  p1 b k n := (a0 (ix3 b k n)).toReal
  p2 b k s := (a1 (ix3 b k s)).toReal
  f1 b i n := (a2 (ix3 b i n)).toReal
  f2 b i s := (a3 (ix3 b i s)).toReal
  W1 o i := (a4 (ix2 o i)).toReal
  b1 o := (a5 (ix1 o)).toReal
  g1 o := (a6 (ix1 o)).toReal
  be1 o := (a7 (ix1 o)).toReal
  W2 o i := (a8 (ix2 o i)).toReal
  b2 o := (a9 (ix1 o)).toReal

/-- Where the precondition is met, the arguments hold the values of the ten real arrays and whatever the last two hold. -/
theorem args_of_finite [Cert.Pre_finite.Facts] (a0 : Vec Ideal ⟨3, ![4, 3, 8192]⟩ .f32) (a1 : Vec Ideal ⟨3, ![4, 3, 2048]⟩ .f32)
    (a2 : Vec Ideal ⟨3, ![4, 128, 8192]⟩ .f32) (a3 : Vec Ideal ⟨3, ![4, 256, 2048]⟩ .f32) (a4 : Vec Ideal ⟨2, ![256, 384]⟩ .f32)
    (a5 a6 a7 : Vec Ideal ⟨1, ![256]⟩ .f32) (a8 : Vec Ideal ⟨2, ![128, 256]⟩ .f32) (a9 a10 a11 : Vec Ideal ⟨1, ![128]⟩ .f32)
    (e : Cert.Pre_finite.fn (F := Ideal) a0 a1 a2 a3 a4 a5 a6 a7 a8 a9 a10 a11 = fun _ => 1#1) :
    Args (inpOf a0 a1 a2 a3 a4 a5 a6 a7 a8 a9) (fun o => a10 (ix1 o)) (fun o => a11 (ix1 o)) a0 a1 a2 a3 a4 a5 a6 a7 a8 a9 a10 a11 := by
  have e := congrFun e (Shape.Idx.first Cert.Pre_finite.Facts.h_S_)
  dsimp only [Cert.Pre_finite.fn, Cert.Pre_finite.fn_part1, Cert.Pre_finite.fn_part2] at e
  obtain ⟨e, e9⟩ := andi_split e
  obtain ⟨e, e8⟩ := andi_split e
  obtain ⟨e, e7⟩ := andi_split e
  obtain ⟨e, e6⟩ := andi_split e
  obtain ⟨e, e5⟩ := andi_split e
  obtain ⟨e, e4⟩ := andi_split e
  obtain ⟨e, e3⟩ := andi_split e
  obtain ⟨e, e2⟩ := andi_split e
  obtain ⟨e0, e1⟩ := andi_split e
  exact {
    p1 := fun b k n => all_real a0 _ _ _ _ e0 _
    p2 := fun b k s => all_real a1 _ _ _ _ e1 _
    f1 := fun b i n => all_real a2 _ _ _ _ e2 _
    f2 := fun b i s => all_real a3 _ _ _ _ e3 _
    W1 := fun o i => all_real a4 _ _ _ _ e4 _
    b1 := fun o => all_real a5 _ _ _ _ e5 _
    g1 := fun o => all_real a6 _ _ _ _ e6 _
    be1 := fun o => all_real a7 _ _ _ _ e7 _
    W2 := fun o i => all_real a8 _ _ _ _ e8 _
    b2 := fun o => all_real a9 _ _ _ _ e9 _
    g2 := fun _ => rfl
    be2 := fun _ => rfl }

end Cert.Knn

end
-- ==== Proof.Pay0.lean ====
/- The first kernel's payloads read at an index, at real loads: the distances, the three rounds, the weights, and the first
   layer's row. -/
module

public import proofs.«01_k».proof.Proof.Spec
public import proofs.«01_k».proof.Proof.Gen.KernelIdeal.Skeleton
public import Idealize.ShloMosaic.Lib.Pointwise

@[expose] public section

noncomputable section

namespace Cert.Knn

open Idealize.ShloMosaic Cert.KernelIdeal Cert.KernelIdeal.Gen

/-- A row of reals, coerced. -/
def erow (d : Fin 2048 → ℝ) : Fin 2048 → EReal := fun s => ((d s : ℝ) : EReal)

/-- A coerced row has no top entry. -/
theorem erow_ne_top (d : Fin 2048 → ℝ) (s : Fin 2048) : erow d s ≠ ⊤ := EReal.coe_ne_top _

/-- The first selected position is the first least. -/
theorem first_sel0 (d : Fin 2048 → ℝ) : First (erow d) (sel d 0) := first_zero (n := 2045) (erow d) (less d) (less_iff d)

/-- The second is the first least once the first is masked. -/
theorem first_sel1 (d : Fin 2048 → ℝ) : First (mask (erow d) (sel d 0)) (sel d 1) :=
  first_one (n := 2045) (erow d) (less d) (less_iff d) (erow_ne_top d)

/-- The third is the first least once the first two are masked. -/
theorem first_sel2 (d : Fin 2048 → ℝ) : First (mask (mask (erow d) (sel d 0)) (sel d 1)) (sel d 2) :=
  first_two (n := 2045) (erow d) (less d) (less_iff d) (erow_ne_top d)

/-- Different places of the sorted row are different positions. -/
theorem sel_ne (d : Fin 2048 → ℝ) {i j : Fin 3} (h : i ≠ j) : sel d i ≠ sel d j := fun e =>
  h (Fin.castLE_injective (by omega) (sortedFrom_injective (less d) e))

/-- The masked row at the second position. -/
theorem mask_sel1 (d : Fin 2048 → ℝ) : mask (erow d) (sel d 0) (sel d 1) = ((d (sel d 1) : ℝ) : EReal) := by
  unfold mask; rw [if_neg (sel_ne d (by decide))]; rfl

/-- The twice masked row at the third position. -/
theorem mask_sel2 (d : Fin 2048 → ℝ) :
    mask (mask (erow d) (sel d 0)) (sel d 1) (sel d 2) = ((d (sel d 2) : ℝ) : EReal) := by
  unfold mask; rw [if_neg (sel_ne d (by decide)), if_neg (sel_ne d (by decide))]; rfl

/-- The select a kernel masks with, read as the mask. -/
theorem select_mask (x : EReal) (s a : Fin 2048) (w : BitVec 32) (hw : w = BitVec.ofNat 32 a.val) (f : Fin 2048 → EReal)
    (hx : x = f s) :
    Scalar.select (IntOp.cmpi CmpIPredicate.eq (BitVec.ofNat 32 s.val) w) (Ideal.ofBits FTy.f32 0x7F800000#32) x = mask f a s := by
  subst hw hx
  unfold mask IntOp.cmpi Scalar.select
  rw [lit_top]
  by_cases h : s = a
  · subst h; simp
  · have : ¬ BitVec.ofNat 32 s.val = BitVec.ofNat 32 a.val := fun e => h ((ofNat_inj s a).mp e)
    have hb : (BitVec.ofNat 32 s.val == BitVec.ofNat 32 a.val) = false := beq_eq_false_iff_ne.mpr this
    simp only [hb, if_neg h]; rfl

/-- The select a kernel lays a weight out with. -/
theorem select_weight (x : ℝ) (s a : Fin 2048) (w : BitVec 32) (hw : w = BitVec.ofNat 32 a.val) (z : EReal) (hz : z = ((x : ℝ) : EReal)) :
    Scalar.select (IntOp.cmpi CmpIPredicate.eq (BitVec.ofNat 32 s.val) w) z (Ideal.ofBits FTy.f32 0x00000000#32)
      = (((if s = a then x else 0 : ℝ)) : EReal) := by
  subst hw hz
  unfold IntOp.cmpi Scalar.select
  rw [lit_zero]
  by_cases h : s = a
  · subst h; simp
  · have : ¬ BitVec.ofNat 32 s.val = BitVec.ofNat 32 a.val := fun e => h ((ofNat_inj s a).mp e)
    have hb : (BitVec.ofNat 32 s.val == BitVec.ofNat 32 a.val) = false := beq_eq_false_iff_ne.mpr this
    simp only [hb, if_neg h]; rfl

/-- The minimum along a row of a block. -/
theorem rowmin_at (x : FVec Ideal S2048x2048 .f32) (n : Fin 2048) (z : Fin 1) :
    shapeCast S2048x1 (multiReduction .minimumf [1] S2048 x 0x7F800000#32 reduces_S2048x2048_S2048 (.inl rfl) rfl)
        shapeCasts_S2048_S2048x1 (ix2 n z)
      = Finset.univ.fold (min : EReal → EReal → EReal) ⊤ fun s : Fin 2048 => x (ix2 n s) := by
  pointwise
  rw [lit_top]

/-- The least column of a row whose entry is at most a given value. -/
theorem rowarg_at (x : FVec Ideal S2048x2048 .f32) (y : FVec Ideal S2048x1 .f32) (n : Fin 2048) (z : Fin 1) :
    shapeCast S2048x1 (multiReductionI .minsi [1] S2048 (select (cmpf .ole x (broadcastTo S2048x2048 y broadcasts_S2048x1_S2048x2048))
        (iota .tc S2048x2048 32 [1] iota_S2048x2048_d1_w32) (broadcast S2048x2048 2048#32)) 2147483647#32
        reduces_S2048x2048_S2048 rfl) shapeCasts_S2048_S2048x1 (ix2 n z)
      = Finset.univ.fold IntOp.minsi 2147483647#32
          fun s : Fin 2048 => if x (ix2 n s) ≤ y (ix2 n 0) then BitVec.ofNat 32 s.val else 2048#32 := by
  pointwise

/-- A block with one column of each row set to the top. -/
theorem rowmask_at (x : FVec Ideal S2048x2048 .f32) (y : IVec S2048x1 32) (n s : Fin 2048) :
    select (cmpi .eq (iota .tc S2048x2048 32 [1] iota_S2048x2048_d1_w32) (broadcastTo S2048x2048 y broadcasts_S2048x1_S2048x2048))
        (broadcast S2048x2048 (Scalar.ofBits .f32 0x7F800000#32 : Ideal .f32)) x (ix2 n s)
      = Scalar.select (IntOp.cmpi CmpIPredicate.eq (BitVec.ofNat 32 s.val) (y (ix2 n 0)))
          (Ideal.ofBits FTy.f32 0x7F800000#32) (x (ix2 n s)) := by
  pointwise

section Rounds

variable {v0 : Vec Ideal S1x2048x3 .f32} {v2 : Vec Ideal S1x3x2048 .f32} {A : Fin 2048 → Fin 3 → ℝ} {B : Fin 3 → Fin 2048 → ℝ}
  (h0 : ∀ n k, v0 (ix3 0 n k) = ((A n k : ℝ) : EReal)) (h2 : ∀ k s, v2 (ix3 0 k s) = ((B k s : ℝ) : EReal))

include h0 h2

/-- The block of squared distances. -/
theorem pay2_at (n s : Fin 2048) : k0_pay2 v0 v2 (ix2 n s) = erow (dist (A n) B) s := by
  pointwise [k0_pay2]
  rw [lit_two, sum_coe _ (fun k => A n k * A n k) fun k => by rw [h0, EReal.coe_mul],
    sum_coe _ (fun k => A n k * B k s) fun k => by rw [h0, h2, EReal.coe_mul],
    sum_coe _ (fun k => B k s * B k s) fun k => by rw [h2, EReal.coe_mul]]
  unfold erow dist
  rw [EReal.coe_add, EReal.coe_sub, EReal.coe_mul]

/-- The first round's minimum. -/
theorem pay3_at (n : Fin 2048) (z : Fin 1) : k0_pay3 v0 v2 (ix2 n z) = erow (dist (A n) B) (sel (dist (A n) B) 0) :=
  (rowmin_at _ n z).trans (round_min _ _ (first_sel0 _) _ fun s => pay2_at h0 h2 n s)

/-- The first round's position. -/
theorem pay4_at (n : Fin 2048) (z : Fin 1) : k0_pay4 v0 v2 (ix2 n z) = BitVec.ofNat 32 (sel (dist (A n) B) 0).val :=
  (rowarg_at _ _ n z).trans (round_arg _ _ (first_sel0 _) _ _ (fun s => pay2_at h0 h2 n s) (pay3_at h0 h2 n 0))

/-- The distances with the first position masked. -/
theorem pay5_at (n s : Fin 2048) :
    k0_pay5 v0 v2 (ix2 n s) = mask (erow (dist (A n) B)) (sel (dist (A n) B) 0) s :=
  (rowmask_at _ _ n s).trans (select_mask _ _ _ _ (pay4_at h0 h2 n 0) _ (pay2_at h0 h2 n s))

/-- The second round's minimum. -/
theorem pay6_at (n : Fin 2048) (z : Fin 1) :
    k0_pay6 v0 v2 (ix2 n z) = mask (erow (dist (A n) B)) (sel (dist (A n) B) 0) (sel (dist (A n) B) 1) :=
  (rowmin_at _ n z).trans (round_min _ _ (first_sel1 _) _ fun s => pay5_at h0 h2 n s)

/-- The second round's position. -/
theorem pay7_at (n : Fin 2048) (z : Fin 1) : k0_pay7 v0 v2 (ix2 n z) = BitVec.ofNat 32 (sel (dist (A n) B) 1).val :=
  (rowarg_at _ _ n z).trans (round_arg _ _ (first_sel1 _) _ _ (fun s => pay5_at h0 h2 n s) (pay6_at h0 h2 n 0))

end Rounds

/-- The minima of a block's rows, as a column. -/
def minCol (x : FVec Ideal S2048x2048 .f32) : FVec Ideal S2048x1 .f32 :=
  shapeCast S2048x1 (multiReduction .minimumf [1] S2048 x 0x7F800000#32 reduces_S2048x2048_S2048 (.inl rfl) rfl)
    shapeCasts_S2048_S2048x1

/-- The first positions of those minima, as a column. -/
def argCol (x : FVec Ideal S2048x2048 .f32) (y : FVec Ideal S2048x1 .f32) : IVec S2048x1 32 :=
  shapeCast S2048x1 (multiReductionI .minsi [1] S2048 (select (cmpf .ole x (broadcastTo S2048x2048 y broadcasts_S2048x1_S2048x2048))
    (iota .tc S2048x2048 32 [1] iota_S2048x2048_d1_w32) (broadcast S2048x2048 2048#32)) 2147483647#32
    reduces_S2048x2048_S2048 rfl) shapeCasts_S2048_S2048x1

/-- The inverses of a column of distances. -/
def invCol (m : FVec Ideal S2048x1 .f32) : FVec Ideal S2048x1 .f32 :=
  divf (broadcast S2048x1 (Scalar.ofBits .f32 0x3F800000#32)) (addf m (broadcast S2048x1 (Scalar.ofBits .f32 0x322BCC77#32)))

/-- A column of weights laid out at a column of positions. -/
def layCol (y : IVec S2048x1 32) (w : FVec Ideal S2048x1 .f32) : FVec Ideal S2048x2048 .f32 :=
  select (cmpi .eq (iota .tc S2048x2048 32 [1] iota_S2048x2048_d1_w32) (broadcastTo S2048x2048 y broadcasts_S2048x1_S2048x2048))
    (broadcastTo S2048x2048 (shapeCast S2048x1 w shapeCasts_S2048x1_S2048x1) broadcasts_S2048x1_S2048x2048)
    (broadcast S2048x2048 (Scalar.ofBits .f32 0x00000000#32))

/-- The sum of three columns of inverses. -/
def sumCol (m1 m2 m3 : FVec Ideal S2048x1 .f32) : FVec Ideal S2048x1 .f32 :=
  addf (addf (invCol m1) (invCol m2)) (invCol m3)

/-- The block of weights from three minima and three positions. -/
def layAll (m1 m2 m3 : FVec Ideal S2048x1 .f32) (i1 i2 i3 : IVec S2048x1 32) : FVec Ideal S2048x2048 .f32 :=
  addf (addf (layCol i1 (divf (invCol m1) (sumCol m1 m2 m3))) (layCol i2 (divf (invCol m2) (sumCol m1 m2 m3))))
    (layCol i3 (divf (invCol m3) (sumCol m1 m2 m3)))

/-- The last payload of the selection, by those names. -/
theorem pay9_eq (v19 : FVec Ideal S2048x1 .f32) (v25 : IVec S2048x1 32) (v29 : FVec Ideal S2048x2048 .f32)
    (v31 : FVec Ideal S2048x1 .f32) (v37 : IVec S2048x1 32) (v39 : IVec S2048x2048 1) (c : Ideal .f32) :
    k0_pay9 (iota .tc S2048x2048 32 [1] iota_S2048x2048_d1_w32) v19 v25 v29 v31 v37 v39 c
      = layAll v19 v31 (minCol (select v39 (broadcast S2048x2048 c) v29)) v25 v37
          (argCol (select v39 (broadcast S2048x2048 c) v29) (minCol (select v39 (broadcast S2048x2048 c) v29))) := rfl

/-- An inverse, where the distance is a coerced real that is not negative. -/
theorem invCol_at (m : FVec Ideal S2048x1 .f32) (n : Fin 2048) (d : Fin 2048 → ℝ) (hd : ∀ s, 0 ≤ d s) (j : Fin 3)
    (hm : m (ix2 n 0) = ((d (sel d j) : ℝ) : EReal)) : invCol m (ix2 n 0) = ((rcp d j : ℝ) : EReal) := by
  have e : invCol m (ix2 n 0) = Ideal.div (Ideal.ofBits .f32 0x3F800000#32) (m (ix2 n 0) + Ideal.ofBits .f32 0x322BCC77#32) := rfl
  rw [e, hm, lit_one, lit_epsD, ← EReal.coe_add, div_real _ _ (shifted_pos hd _).ne']
  rfl

/-- A laid-out column at an index. -/
theorem layCol_at (y : IVec S2048x1 32) (w : FVec Ideal S2048x1 .f32) (n s a : Fin 2048) (x : ℝ)
    (hy : y (ix2 n 0) = BitVec.ofNat 32 a.val) (hw : w (ix2 n 0) = ((x : ℝ) : EReal)) :
    layCol y w (ix2 n s) = (((if s = a then x else 0 : ℝ)) : EReal) := by
  have e : layCol y w (ix2 n s) = Scalar.select (IntOp.cmpi CmpIPredicate.eq (BitVec.ofNat 32 s.val) (y (ix2 n 0))) (w (ix2 n 0))
      (Ideal.ofBits FTy.f32 0x00000000#32) := by
    unfold layCol
    pointwise
  rw [e]
  exact select_weight x s a _ hy _ hw

/-- The block of weights at an index, from the three minima and positions of the row. -/
theorem layAll_at (m1 m2 m3 : FVec Ideal S2048x1 .f32) (i1 i2 i3 : IVec S2048x1 32) (n s : Fin 2048) (d : Fin 2048 → ℝ)
    (hd : ∀ s, 0 ≤ d s) (hm1 : m1 (ix2 n 0) = ((d (sel d 0) : ℝ) : EReal)) (hm2 : m2 (ix2 n 0) = ((d (sel d 1) : ℝ) : EReal))
    (hm3 : m3 (ix2 n 0) = ((d (sel d 2) : ℝ) : EReal)) (hi1 : i1 (ix2 n 0) = BitVec.ofNat 32 (sel d 0).val)
    (hi2 : i2 (ix2 n 0) = BitVec.ofNat 32 (sel d 1).val) (hi3 : i3 (ix2 n 0) = BitVec.ofNat 32 (sel d 2).val) :
    layAll m1 m2 m3 i1 i2 i3 (ix2 n s) = ((wrow d s : ℝ) : EReal) := by
  have r1 := invCol_at m1 n d hd 0 hm1
  have r2 := invCol_at m2 n d hd 1 hm2
  have r3 := invCol_at m3 n d hd 2 hm3
  have hs : sumCol m1 m2 m3 (ix2 n 0) = ((nrm d : ℝ) : EReal) := by
    have e : sumCol m1 m2 m3 (ix2 n 0) = invCol m1 (ix2 n 0) + invCol m2 (ix2 n 0) + invCol m3 (ix2 n 0) := rfl
    rw [e, r1, r2, r3, ← EReal.coe_add, ← EReal.coe_add]; rfl
  have hw : ∀ (m : FVec Ideal S2048x1 .f32) (j : Fin 3), invCol m (ix2 n 0) = ((rcp d j : ℝ) : EReal) →
      divf (invCol m) (sumCol m1 m2 m3) (ix2 n 0) = ((wgt d j : ℝ) : EReal) := fun m j h => by
    have e : divf (invCol m) (sumCol m1 m2 m3) (ix2 n 0) = Ideal.div (invCol m (ix2 n 0)) (sumCol m1 m2 m3 (ix2 n 0)) := rfl
    rw [e, h, hs, div_real _ _ (nrm_pos hd).ne']; rfl
  have e : layAll m1 m2 m3 i1 i2 i3 (ix2 n s) = layCol i1 (divf (invCol m1) (sumCol m1 m2 m3)) (ix2 n s)
      + layCol i2 (divf (invCol m2) (sumCol m1 m2 m3)) (ix2 n s) + layCol i3 (divf (invCol m3) (sumCol m1 m2 m3)) (ix2 n s) := rfl
  rw [e, layCol_at i1 _ n s _ _ hi1 (hw _ _ r1), layCol_at i2 _ n s _ _ hi2 (hw _ _ r2), layCol_at i3 _ n s _ _ hi3 (hw _ _ r3),
    ← EReal.coe_add, ← EReal.coe_add]
  rfl

/-- The block of weights of the loads of a grid point. -/
def wts (v0 : Vec Ideal S1x2048x3 .f32) (v2 : Vec Ideal S1x3x2048 .f32) : FVec Ideal S2048x2048 .f32 :=
  k0_pay9 (iota .tc S2048x2048 32 [1] iota_S2048x2048_d1_w32) (k0_pay3 v0 v2) (k0_pay4 v0 v2) (k0_pay5 v0 v2) (k0_pay6 v0 v2)
    (k0_pay7 v0 v2) (k0_pay8 v0 v2) (Scalar.ofBits .f32 0x7F800000#32)

/-- The weights of the loads of a grid point, at an index. -/
theorem wts_at {v0 : Vec Ideal S1x2048x3 .f32} {v2 : Vec Ideal S1x3x2048 .f32} {A : Fin 2048 → Fin 3 → ℝ} {B : Fin 3 → Fin 2048 → ℝ}
    (h0 : ∀ n k, v0 (ix3 0 n k) = ((A n k : ℝ) : EReal)) (h2 : ∀ k s, v2 (ix3 0 k s) = ((B k s : ℝ) : EReal)) (n s : Fin 2048) :
    wts v0 v2 (ix2 n s) = ((wrow (dist (A n) B) s : ℝ) : EReal) := by
  unfold wts
  rw [pay9_eq]
  have hx : ∀ s, select (k0_pay8 v0 v2) (broadcast S2048x2048 (Scalar.ofBits .f32 0x7F800000#32 : Ideal .f32)) (k0_pay5 v0 v2) (ix2 n s)
      = mask (mask (erow (dist (A n) B)) (sel (dist (A n) B) 0)) (sel (dist (A n) B) 1) s := fun s =>
    (rowmask_at _ _ n s).trans (select_mask _ _ _ _ (pay7_at h0 h2 n 0) _ (pay5_at h0 h2 n s))
  generalize select (k0_pay8 v0 v2) (broadcast S2048x2048 (Scalar.ofBits .f32 0x7F800000#32 : Ideal .f32)) (k0_pay5 v0 v2) = x at hx ⊢
  have hm : minCol x (ix2 n 0) = _ := (rowmin_at x n 0).trans (round_min _ _ (first_sel2 _) _ hx)
  exact layAll_at _ _ _ _ _ _ n s _ (dist_nonneg _ _) (pay3_at h0 h2 n 0) ((pay6_at h0 h2 n 0).trans (mask_sel1 _))
    (hm.trans (mask_sel2 _)) (pay4_at h0 h2 n 0) (pay7_at h0 h2 n 0)
    ((rowarg_at x _ n 0).trans (round_arg _ _ (first_sel2 _) _ _ hx hm))

end Cert.Knn

end
-- ==== Proof.Pay12.lean ====
/- The remaining payloads read at an index: the first layer before normalisation, the two running sums, and the two
   normalised layers. -/
module

public import proofs.«01_k».proof.Proof.Pay0

@[expose] public section

noncomputable section

namespace Cert.Knn

open Idealize.ShloMosaic Cert.KernelIdeal Cert.KernelIdeal.Gen

/-- The first layer's row: a product with the features, a product with the interpolated features, and the bias. -/
theorem pay10_at {v86 : FVec Ideal S2048x2048 .f32} {v87 : Vec Ideal S1x2048x256 .f32} {v90 : Vec Ideal S1x2048x128 .f32}
    {v92 : Vec Ideal S128x256 .f32} {v95 : Vec Ideal S256x256 .f32} {v99 : Vec Ideal S1x256 .f32} (n : Fin 2048) (o : Fin 256)
    (d : Fin 2048 → ℝ) (f2 : Fin 256 → Fin 2048 → ℝ) (f1 wa : Fin 128 → ℝ) (wb : Fin 256 → ℝ) (b1 : ℝ)
    (h86 : ∀ s, v86 (ix2 n s) = ((wrow d s : ℝ) : EReal)) (h87 : ∀ s c, v87 (ix3 0 s c) = ((f2 c s : ℝ) : EReal))
    (h90 : ∀ i, v90 (ix3 0 n i) = ((f1 i : ℝ) : EReal)) (h92 : ∀ i, v92 (ix2 i o) = ((wa i : ℝ) : EReal))
    (h95 : ∀ i, v95 (ix2 i o) = ((wb i : ℝ) : EReal)) (h99 : v99 (ix2 0 o) = ((b1 : ℝ) : EReal)) :
    k0_pay10 v86 v87 v90 v92 v95 v99 (ix2 n o)
      = (((∑ i, f1 i * wa i) + (∑ c, itp d (f2 c) * wb c) + b1 : ℝ) : EReal) := by
  pointwise [k0_pay10]
  have hi : ∀ c : Fin 256, (∑ s, v86 (ix2 n s) * v87 (ix3 0 s c)) = ((itp d (f2 c) : ℝ) : EReal) := fun c => by
    rw [sum_coe _ (fun s => wrow d s * f2 c s) fun s => by rw [h86, h87, EReal.coe_mul], sum_wrow]
  rw [sum_coe _ (fun i => f1 i * wa i) fun i => by rw [h90, h92, EReal.coe_mul],
    sum_coe _ (fun c => itp d (f2 c) * wb c) fun c => by rw [hi, h95, EReal.coe_mul], h99, EReal.coe_add, EReal.coe_add]

/-- The stored block is the first layer's block under a leading unit axis. -/
theorem pay11_at (v86 : FVec Ideal S2048x2048 .f32) (v87 : Vec Ideal S1x2048x256 .f32) (v90 : Vec Ideal S1x2048x128 .f32)
    (v92 : Vec Ideal S128x256 .f32) (v95 : Vec Ideal S256x256 .f32) (v99 : Vec Ideal S1x256 .f32) (z : Fin 1) (n : Fin 2048)
    (o : Fin 256) : k0_pay11 v86 v87 v90 v92 v95 v99 (ix3 z n o) = k0_pay10 v86 v87 v90 v92 v95 v99 (ix2 n o) := by
  unfold k0_pay11
  generalize k0_pay10 v86 v87 v90 v92 v95 v99 = x
  pointwise

/-- The running sum takes a block's column sums. -/
theorem pay14_at (v86 : FVec Ideal S2048x2048 .f32) (v87 : Vec Ideal S1x2048x256 .f32) (v90 : Vec Ideal S1x2048x128 .f32)
    (v92 : Vec Ideal S128x256 .f32) (v95 : Vec Ideal S256x256 .f32) (v99 v111 : Vec Ideal S1x256 .f32) (z : Fin 1) (o : Fin 256) :
    k0_pay14 v86 v87 v90 v92 v95 v99 v111 (ix2 z o)
      = v111 (ix2 z o) + ∑ n : Fin 2048, k0_pay10 v86 v87 v90 v92 v95 v99 (ix2 n o) := by
  unfold k0_pay14
  generalize k0_pay10 v86 v87 v90 v92 v95 v99 = x
  pointwise

/-- The running sum of squares takes a block's column sums of squares. -/
theorem pay1_at (v102 : FVec Ideal S2048x256 .f32) (v117 : Vec Ideal S1x256 .f32) (z : Fin 1) (o : Fin 256) :
    k0_pay1 v102 v117 (ix2 z o) = v117 (ix2 z o) + ∑ n : Fin 2048, v102 (ix2 n o) * v102 (ix2 n o) := by
  pointwise [k0_pay1]

/-- The running sums start at zero. -/
theorem pay12_at (z : Fin 1) (o : Fin 256) : (k0_pay12 : FVec Ideal S1x256 .f32) (ix2 z o) = 0 := by
  pointwise [k0_pay12]

/-- So does the sum of squares. -/
theorem pay13_at (z : Fin 1) (o : Fin 256) : (k0_pay13 : FVec Ideal S1x256 .f32) (ix2 z o) = 0 := by
  pointwise [k0_pay13]

/-- A normalised entry as the kernel computes it from the two sums over all rows. -/
theorem norm_kernel (c : Fin 4 → Fin 8192 → ℝ) (x : ℝ) {s ss h : EReal} (g be : EReal) (hs : s = ((∑ b, ∑ n, c b n : ℝ) : EReal))
    (hss : ss = ((∑ b, ∑ n, c b n * c b n : ℝ) : EReal)) (hx : h = ((x : ℝ) : EReal)) :
    max ((h - Ideal.div s (Ideal.ofBits FTy.f32 0x47000000#32)) * (g * Ideal.rsqrt (Ideal.div ss (Ideal.ofBits FTy.f32 0x47000000#32)
      - Ideal.div s (Ideal.ofBits FTy.f32 0x47000000#32) * Ideal.div s (Ideal.ofBits FTy.f32 0x47000000#32)
      + Ideal.ofBits FTy.f32 0x3727C5AC#32)) + be) 0 = act c x g be := by
  have h8 : (32768 : ℝ) ≠ 0 := by norm_num
  rw [hs, hss, hx, lit_rows, lit_epsV, div_real _ _ h8, div_real _ _ h8, ← EReal.coe_mul, ← EReal.coe_sub]
  exact act_kernel c x g be

/-- The second layer before normalisation. -/
theorem k1pay6_at {v0 v4 v10 : Vec Ideal S1x256 .f32} {v16 : Vec Ideal S1x2048x256 .f32} {v22 : Vec Ideal S1x256 .f32}
    {v28 : Vec Ideal S256x128 .f32} {v31 : Vec Ideal S1x128 .f32} (n : Fin 2048) (o : Fin 128)
    (c : Fin 256 → Fin 4 → Fin 8192 → ℝ) (x g be w : Fin 256 → ℝ) (b2 : ℝ)
    (h0 : ∀ i, v0 (ix2 0 i) = ((∑ b, ∑ n, c i b n : ℝ) : EReal)) (h4 : ∀ i, v4 (ix2 0 i) = ((∑ b, ∑ n, c i b n * c i b n : ℝ) : EReal))
    (h10 : ∀ i, v10 (ix2 0 i) = ((g i : ℝ) : EReal)) (h16 : ∀ i, v16 (ix3 0 n i) = ((x i : ℝ) : EReal))
    (h22 : ∀ i, v22 (ix2 0 i) = ((be i : ℝ) : EReal)) (h28 : ∀ i, v28 (ix2 i o) = ((w i : ℝ) : EReal))
    (h31 : v31 (ix2 0 o) = ((b2 : ℝ) : EReal)) :
    k1_pay6 v0 v4 v10 v16 v22 v28 v31 (ix2 n o) = (((∑ i, actR (c i) (x i) (g i) (be i) * w i) + b2 : ℝ) : EReal) := by
  pointwise [k1_pay6]
  rw [sum_coe _ (fun i => actR (c i) (x i) (g i) (be i) * w i) fun i => by
    rw [norm_kernel (c i) (x i) _ _ (h0 i) (h4 i) (h16 i), h10, h22, act_coe, h28, EReal.coe_mul], h31, EReal.coe_add]

/-- The stored block is the second layer's block under a leading unit axis. -/
theorem k1pay1_at (v34 : FVec Ideal S2048x128 .f32) (z : Fin 1) (n : Fin 2048) (o : Fin 128) :
    k1_pay1 v34 (ix3 z n o) = v34 (ix2 n o) := by
  pointwise [k1_pay1]

/-- The second running sum. -/
theorem k1pay4_at (v34 : FVec Ideal S2048x128 .f32) (v43 : Vec Ideal S1x128 .f32) (z : Fin 1) (o : Fin 128) :
    k1_pay4 v34 v43 (ix2 z o) = v43 (ix2 z o) + ∑ n : Fin 2048, v34 (ix2 n o) := by
  pointwise [k1_pay4]

/-- The second running sum of squares. -/
theorem k1pay5_at (v34 : FVec Ideal S2048x128 .f32) (v49 : Vec Ideal S1x128 .f32) (z : Fin 1) (o : Fin 128) :
    k1_pay5 v34 v49 (ix2 z o) = v49 (ix2 z o) + ∑ n : Fin 2048, v34 (ix2 n o) * v34 (ix2 n o) := by
  pointwise [k1_pay5]

/-- The second running sums start at zero. -/
theorem k1pay2_at (z : Fin 1) (o : Fin 128) : (k1_pay2 : FVec Ideal S1x128 .f32) (ix2 z o) = 0 := by
  pointwise [k1_pay2]

/-- So does the sum of squares. -/
theorem k1pay3_at (z : Fin 1) (o : Fin 128) : (k1_pay3 : FVec Ideal S1x128 .f32) (ix2 z o) = 0 := by
  pointwise [k1_pay3]

/-- The last layer, normalised and transposed. -/
theorem k2pay1_at {v0 v4 v10 : Vec Ideal S1x128 .f32} {v16 : Vec Ideal S1x2048x128 .f32} {v22 : Vec Ideal S1x128 .f32} (z : Fin 1)
    (n : Fin 2048) (o : Fin 128) (c : Fin 4 → Fin 8192 → ℝ) (x : ℝ)
    (h0 : v0 (ix2 0 o) = ((∑ b, ∑ n, c b n : ℝ) : EReal)) (h4 : v4 (ix2 0 o) = ((∑ b, ∑ n, c b n * c b n : ℝ) : EReal))
    (h16 : v16 (ix3 0 n o) = ((x : ℝ) : EReal)) :
    k2_pay1 v0 v4 v10 v16 v22 (ix3 z o n) = act c x (v10 (ix2 0 o)) (v22 (ix2 0 o)) := by
  have := norm_kernel c x (v10 (ix2 0 o)) (v22 (ix2 0 o)) h0 h4 h16
  pointwise [k2_pay1]
  exact this

end Cert.Knn

end
-- ==== Proof.Out0.lean ====
/- What one grid point of the first call leaves in its three output blocks. -/
module

public import proofs.«01_k».proof.Proof.Pay12
public import proofs.«01_k».proof.Proof.Gen.KernelIdeal.Frame
public import Idealize.ShloMosaic.Lib.Pipeline.Value
public import Idealize.ShloMosaic.Lib.Tactic

@[expose] public section

noncomputable section

namespace Cert.Knn

open Idealize.ShloMosaic Idealize.ShloMosaic.TcCoe Idealize.SL.Sem Cert.KernelIdeal Cert.KernelIdeal.Gen

/-- The zero offset of a plane, as a constant function. -/
theorem hz2 : (![0, 0] : Fin 2 → Nat) = fun _ => 0 := funext fun a => by fin_cases a <;> rfl
/-- The zero offset of a box, as a constant function. -/
theorem hz3 : (![0, 0, 0] : Fin 3 → Nat) = fun _ => 0 := funext fun a => by fin_cases a <;> rfl

variable (c : Dev nD) (i : grid0.Coords) (a2 : Memref sig .tc .vmem S1x2048x3 .f32) (h2 : a2.IsWhole)
  (a3 : Memref sig .tc .vmem S1x3x2048 .f32) (h3 : a3.IsWhole) (a4 : Memref sig .tc .vmem S1x2048x256 .f32) (h4 : a4.IsWhole)
  (a5 : Memref sig .tc .vmem S1x2048x128 .f32) (h5 : a5.IsWhole) (a6 : Memref sig .tc .vmem S128x256 .f32) (h6 : a6.IsWhole)
  (a7 : Memref sig .tc .vmem S256x256 .f32) (h7 : a7.IsWhole) (a8 : Memref sig .tc .vmem S1x256 .f32) (h8 : a8.IsWhole)
  (a9 : Memref sig .tc .vmem S1x2048x256 .f32) (h9 : a9.IsWhole) (a10 : Memref sig .tc .vmem S1x256 .f32) (h10 : a10.IsWhole)
  (a11 : Memref sig .tc .vmem S1x256 .f32) (h11 : a11.IsWhole)
  (x0 : Vec Ideal S1x2048x3 .f32) (x1 : Vec Ideal S1x3x2048 .f32) (x2 : Vec Ideal S1x2048x256 .f32) (x3 : Vec Ideal S1x2048x128 .f32)
  (x4 : Vec Ideal S128x256 .f32) (x5 : Vec Ideal S256x256 .f32) (x6 : Vec Ideal S1x256 .f32) (xo8 xo9 : Vec Ideal S1x256 .f32)

/-- At the first point the block of the first layer is stored. -/
theorem out0_A_7_eq (hc : cond0_0 i) :
    out0_A_7 c i a2 h2 a3 h3 a4 h4 a5 h5 a6 h6 a7 h7 a8 h8 a9 h9 a10 h10 a11 h11 hc x0 x1 x2 x3 x4 x5 x6
      = k0_pay11 (wts x0 x1) x2 x3 x4 x5 x6 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread,
    h8.read_unread, h10.read_unread, h11.read_unread, View.ld_unit_zero (S := S1x2048x3) hz3, View.ld_unit_zero (S := S1x3x2048) hz3,
    View.ld_unit_zero (S := S1x2048x256) hz3, View.ld_unit_zero (S := S1x2048x128) hz3, View.ld_unit_zero (S := S128x256) hz2,
    View.ld_unit_zero (S := S256x256) hz2, View.ld_unit_zero (S := S1x256) hz2]
  rfl

/-- At the first point the running sum takes the block's sums, from zero. -/
theorem out0_A_8_eq (hc : cond0_0 i) :
    out0_A_8 c i a2 h2 a3 h3 a4 h4 a5 h5 a6 h6 a7 h7 a8 h8 a9 h9 a10 h10 a11 h11 hc x0 x1 x2 x3 x4 x5 x6
      = k0_pay14 (wts x0 x1) x2 x3 x4 x5 x6 (k0_pay12 : FVec Ideal S1x256 .f32) := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x256) hz2, View.readCov_unit_zero (S := S1x256) _ hz2]
  simp only [View.readAt_eq_ld, h2.read_unread, h3.read_unread, h4.read_unread, h5.read_unread, h6.read_unread, h7.read_unread,
    h8.read_unread, h10.read_unread, h11.read_unread, View.ld_unit_zero (S := S1x2048x3) hz3, View.ld_unit_zero (S := S1x3x2048) hz3,
    View.ld_unit_zero (S := S1x2048x256) hz3, View.ld_unit_zero (S := S1x2048x128) hz3, View.ld_unit_zero (S := S128x256) hz2,
    View.ld_unit_zero (S := S256x256) hz2, View.ld_unit_zero (S := S1x256) hz2]
  rfl

/-- At the first point the running sum of squares takes the block's, from zero. -/
theorem out0_A_9_eq (hc : cond0_0 i) :
    out0_A_9 c i a2 h2 a3 h3 a4 h4 a5 h5 a6 h6 a7 h7 a8 h8 a9 h9 a10 h10 a11 h11 hc x0 x1 x2 x3 x4 x5 x6
      = k0_pay1 (k0_pay10 (wts x0 x1) x2 x3 x4 x5 x6) (k0_pay13 : FVec Ideal S1x256 .f32) := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x256) hz2, View.readCov_unit_zero (S := S1x256) _ hz2]
  simp only [View.readAt_eq_ld, h2.read_unread, h3.read_unread, h4.read_unread, h5.read_unread, h6.read_unread, h7.read_unread,
    h8.read_unread, h10.read_unread, h11.read_unread, View.ld_unit_zero (S := S1x2048x3) hz3, View.ld_unit_zero (S := S1x3x2048) hz3,
    View.ld_unit_zero (S := S1x2048x256) hz3, View.ld_unit_zero (S := S1x2048x128) hz3, View.ld_unit_zero (S := S128x256) hz2,
    View.ld_unit_zero (S := S256x256) hz2, View.ld_unit_zero (S := S1x256) hz2]
  rfl

/-- At a later point the block of the first layer is stored. -/
theorem out0_B_7_eq (hc : ¬cond0_0 i) :
    out0_B_7 c i a2 h2 a3 h3 a4 h4 a5 h5 a6 h6 a7 h7 a8 h8 a9 h9 a10 h10 a11 h11 hc x0 x1 x2 x3 x4 x5 x6 xo8 xo9
      = k0_pay11 (wts x0 x1) x2 x3 x4 x5 x6 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h10.read_unread, h11.read_unread, View.ld_unit_zero (S := S1x2048x3) hz3, View.ld_unit_zero (S := S1x3x2048) hz3,
    View.ld_unit_zero (S := S1x2048x256) hz3, View.ld_unit_zero (S := S1x2048x128) hz3, View.ld_unit_zero (S := S128x256) hz2,
    View.ld_unit_zero (S := S256x256) hz2, View.ld_unit_zero (S := S1x256) hz2]
  rfl

/-- At a later point the running sum takes the block's sums, over what it held. -/
theorem out0_B_8_eq (hc : ¬cond0_0 i) :
    out0_B_8 c i a2 h2 a3 h3 a4 h4 a5 h5 a6 h6 a7 h7 a8 h8 a9 h9 a10 h10 a11 h11 hc x0 x1 x2 x3 x4 x5 x6 xo8 xo9
      = k0_pay14 (wts x0 x1) x2 x3 x4 x5 x6 xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, h10.read_unread, h11.read_unread, View.ld_unit_zero (S := S1x2048x3) hz3, View.ld_unit_zero (S := S1x3x2048) hz3,
    View.ld_unit_zero (S := S1x2048x256) hz3, View.ld_unit_zero (S := S1x2048x128) hz3, View.ld_unit_zero (S := S128x256) hz2,
    View.ld_unit_zero (S := S256x256) hz2, View.ld_unit_zero (S := S1x256) hz2]
  rfl

/-- At a later point the running sum of squares takes the block's, over what it held. -/
theorem out0_B_9_eq (hc : ¬cond0_0 i) :
    out0_B_9 c i a2 h2 a3 h3 a4 h4 a5 h5 a6 h6 a7 h7 a8 h8 a9 h9 a10 h10 a11 h11 hc x0 x1 x2 x3 x4 x5 x6 xo8 xo9
      = k0_pay1 (k0_pay10 (wts x0 x1) x2 x3 x4 x5 x6) xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, h10.read_unread, h11.read_unread, View.ld_unit_zero (S := S1x2048x3) hz3, View.ld_unit_zero (S := S1x3x2048) hz3,
    View.ld_unit_zero (S := S1x2048x256) hz3, View.ld_unit_zero (S := S1x2048x128) hz3, View.ld_unit_zero (S := S128x256) hz2,
    View.ld_unit_zero (S := S256x256) hz2, View.ld_unit_zero (S := S1x256) hz2]
  rfl

end Cert.Knn

end
-- ==== Proof.Out1.lean ====
/- What one grid point of the second call leaves in its three output blocks. -/
module

public import proofs.«01_k».proof.Proof.Out0
public import Idealize.ShloMosaic.Lib.Pipeline.Value
public import Idealize.ShloMosaic.Lib.Tactic

@[expose] public section

noncomputable section

namespace Cert.Knn

open Idealize.ShloMosaic Idealize.ShloMosaic.TcCoe Idealize.SL.Sem Cert.KernelIdeal Cert.KernelIdeal.Gen

variable (c : Dev nD) (i : grid1.Coords) (a2 : Memref sig .tc .vmem S1x2048x256 .f32) (h2 : a2.IsWhole)
  (a3 : Memref sig .tc .vmem S1x256 .f32) (h3 : a3.IsWhole) (a4 : Memref sig .tc .vmem S1x256 .f32) (h4 : a4.IsWhole)
  (a5 : Memref sig .tc .vmem S1x256 .f32) (h5 : a5.IsWhole) (a6 : Memref sig .tc .vmem S1x256 .f32) (h6 : a6.IsWhole)
  (a7 : Memref sig .tc .vmem S256x128 .f32) (h7 : a7.IsWhole) (a8 : Memref sig .tc .vmem S1x128 .f32) (h8 : a8.IsWhole)
  (a9 : Memref sig .tc .vmem S1x2048x128 .f32) (h9 : a9.IsWhole) (a10 : Memref sig .tc .vmem S1x128 .f32) (h10 : a10.IsWhole)
  (a11 : Memref sig .tc .vmem S1x128 .f32) (h11 : a11.IsWhole)
  (x0 : Vec Ideal S1x2048x256 .f32) (x1 x2 x3 x4 : Vec Ideal S1x256 .f32) (x5 : Vec Ideal S256x128 .f32)
  (x6 xo8 xo9 : Vec Ideal S1x128 .f32)

/-- At the first point the block of the second layer is stored. -/
theorem out1_A_7_eq (hc : cond1_0 i) :
    out1_A_7 c i a2 h2 a3 h3 a4 h4 a5 h5 a6 h6 a7 h7 a8 h8 a9 h9 a10 h10 a11 h11 hc x0 x1 x2 x3 x4 x5 x6
      = k1_pay1 (k1_pay6 x1 x2 x3 x0 x4 x5 x6) := by
  unfold out1_A_7
  rw [View.read_writes_eq_canon _ _ _ (cover1_A_7 c i a2 h2 a3 h3 a4 h4 a5 h5 a6 h6 a7 h7 a8 h8 a9 h9 a10 h10 a11 h11 hc x0 x1 x2 x3 x4 x5 x6)]
  unfold kernelRun1_A
  dsimp only
  sl_unfold_words
  rw [View.canon_unit_zero hz3]
  simp only [View.readAt_eq_ld, h2.read_unread, h3.read_unread, h4.read_unread, h5.read_unread, h6.read_unread, h7.read_unread,
    h8.read_unread, h10.read_unread, h11.read_unread, View.ld_unit_zero (S := S1x2048x256) hz3, View.ld_unit_zero (S := S1x256) hz2,
    View.ld_unit_zero (S := S256x128) hz2, View.ld_unit_zero (S := S1x128) hz2]

/-- At the first point the running sum takes the block's sums, from zero. -/
theorem out1_A_8_eq (hc : cond1_0 i) :
    out1_A_8 c i a2 h2 a3 h3 a4 h4 a5 h5 a6 h6 a7 h7 a8 h8 a9 h9 a10 h10 a11 h11 hc x0 x1 x2 x3 x4 x5 x6
      = k1_pay4 (k1_pay6 x1 x2 x3 x0 x4 x5 x6) (k1_pay2 : FVec Ideal S1x128 .f32) := by
  unfold out1_A_8
  rw [View.read_writes_eq_canon _ _ _ (cover1_A_8 c i a2 h2 a3 h3 a4 h4 a5 h5 a6 h6 a7 h7 a8 h8 a9 h9 a10 h10 a11 h11 hc x0 x1 x2 x3 x4 x5 x6)]
  unfold kernelRun1_A
  dsimp only
  sl_unfold_words
  rw [View.canon_cons_unit_zero (S := S1x128) hz2, View.readCov_unit_zero (S := S1x128) _ hz2]
  simp only [View.readAt_eq_ld, h2.read_unread, h3.read_unread, h4.read_unread, h5.read_unread, h6.read_unread, h7.read_unread,
    h8.read_unread, h10.read_unread, h11.read_unread, View.ld_unit_zero (S := S1x2048x256) hz3, View.ld_unit_zero (S := S1x256) hz2,
    View.ld_unit_zero (S := S256x128) hz2, View.ld_unit_zero (S := S1x128) hz2]

/-- At the first point the running sum of squares takes the block's, from zero. -/
theorem out1_A_9_eq (hc : cond1_0 i) :
    out1_A_9 c i a2 h2 a3 h3 a4 h4 a5 h5 a6 h6 a7 h7 a8 h8 a9 h9 a10 h10 a11 h11 hc x0 x1 x2 x3 x4 x5 x6
      = k1_pay5 (k1_pay6 x1 x2 x3 x0 x4 x5 x6) (k1_pay3 : FVec Ideal S1x128 .f32) := by
  unfold out1_A_9
  rw [View.read_writes_eq_canon _ _ _ (cover1_A_9 c i a2 h2 a3 h3 a4 h4 a5 h5 a6 h6 a7 h7 a8 h8 a9 h9 a10 h10 a11 h11 hc x0 x1 x2 x3 x4 x5 x6)]
  unfold kernelRun1_A
  dsimp only
  sl_unfold_words
  rw [View.canon_cons_unit_zero (S := S1x128) hz2, View.readCov_unit_zero (S := S1x128) _ hz2]
  simp only [View.readAt_eq_ld, h2.read_unread, h3.read_unread, h4.read_unread, h5.read_unread, h6.read_unread, h7.read_unread,
    h8.read_unread, h10.read_unread, h11.read_unread, View.ld_unit_zero (S := S1x2048x256) hz3, View.ld_unit_zero (S := S1x256) hz2,
    View.ld_unit_zero (S := S256x128) hz2, View.ld_unit_zero (S := S1x128) hz2]

/-- At a later point the block of the second layer is stored. -/
theorem out1_B_7_eq (hc : ¬cond1_0 i) :
    out1_B_7 c i a2 h2 a3 h3 a4 h4 a5 h5 a6 h6 a7 h7 a8 h8 a9 h9 a10 h10 a11 h11 hc x0 x1 x2 x3 x4 x5 x6 xo8 xo9
      = k1_pay1 (k1_pay6 x1 x2 x3 x0 x4 x5 x6) := by
  unfold out1_B_7
  rw [View.read_writes_eq_canon _ _ _ (cover1_B_7 c i a2 h2 a3 h3 a4 h4 a5 h5 a6 h6 a7 h7 a8 h8 a9 h9 a10 h10 a11 h11 hc x0 x1 x2 x3 x4 x5 x6 xo8 xo9)]
  unfold kernelRun1_B
  dsimp only
  sl_unfold_words
  rw [View.canon_unit_zero hz3]
  simp only [View.readAt_eq_ld, h2.read_unread, h3.read_unread, h4.read_unread, h5.read_unread, h6.read_unread, h7.read_unread,
    h8.read_unread, h10.read_unread, h11.read_unread, View.ld_unit_zero (S := S1x2048x256) hz3, View.ld_unit_zero (S := S1x256) hz2,
    View.ld_unit_zero (S := S256x128) hz2, View.ld_unit_zero (S := S1x128) hz2]

/-- At a later point the running sum takes the block's sums, over what it held. -/
theorem out1_B_8_eq (hc : ¬cond1_0 i) :
    out1_B_8 c i a2 h2 a3 h3 a4 h4 a5 h5 a6 h6 a7 h7 a8 h8 a9 h9 a10 h10 a11 h11 hc x0 x1 x2 x3 x4 x5 x6 xo8 xo9
      = k1_pay4 (k1_pay6 x1 x2 x3 x0 x4 x5 x6) xo8 := by
  unfold out1_B_8
  rw [View.read_writes_eq_canon _ _ _ (cover1_B_8 c i a2 h2 a3 h3 a4 h4 a5 h5 a6 h6 a7 h7 a8 h8 a9 h9 a10 h10 a11 h11 hc x0 x1 x2 x3 x4 x5 x6 xo8 xo9)]
  unfold kernelRun1_B
  dsimp only
  sl_unfold_words
  rw [View.canon_unit_zero hz2]
  simp only [View.readAt_eq_ld, h2.read_unread, h3.read_unread, h4.read_unread, h5.read_unread, h6.read_unread, h7.read_unread,
    h8.read_unread, h10.read_unread, h11.read_unread, View.ld_unit_zero (S := S1x2048x256) hz3, View.ld_unit_zero (S := S1x256) hz2,
    View.ld_unit_zero (S := S256x128) hz2, View.ld_unit_zero (S := S1x128) hz2]

/-- At a later point the running sum of squares takes the block's, over what it held. -/
theorem out1_B_9_eq (hc : ¬cond1_0 i) :
    out1_B_9 c i a2 h2 a3 h3 a4 h4 a5 h5 a6 h6 a7 h7 a8 h8 a9 h9 a10 h10 a11 h11 hc x0 x1 x2 x3 x4 x5 x6 xo8 xo9
      = k1_pay5 (k1_pay6 x1 x2 x3 x0 x4 x5 x6) xo9 := by
  unfold out1_B_9
  rw [View.read_writes_eq_canon _ _ _ (cover1_B_9 c i a2 h2 a3 h3 a4 h4 a5 h5 a6 h6 a7 h7 a8 h8 a9 h9 a10 h10 a11 h11 hc x0 x1 x2 x3 x4 x5 x6 xo8 xo9)]
  unfold kernelRun1_B
  dsimp only
  sl_unfold_words
  rw [View.canon_unit_zero hz2]
  simp only [View.readAt_eq_ld, h2.read_unread, h3.read_unread, h4.read_unread, h5.read_unread, h6.read_unread, h7.read_unread,
    h8.read_unread, h10.read_unread, h11.read_unread, View.ld_unit_zero (S := S1x2048x256) hz3, View.ld_unit_zero (S := S1x256) hz2,
    View.ld_unit_zero (S := S256x128) hz2, View.ld_unit_zero (S := S1x128) hz2]

end Cert.Knn

end
-- ==== Proof.Sums.lean ====
/- A sum over sixteen blocks of 2048 rows is the sum over four batches of 8192 rows. -/
module

public import proofs.«01_k».proof.Proof.Spec

@[expose] public section

noncomputable section

namespace Cert.Knn

/-- The batch of block `t`. -/
def bat (t : ℕ) : Fin 4 := ⟨t / 4 % 4, Nat.mod_lt _ (by norm_num)⟩

/-- The row of the array that is row `r` of block `t`. -/
def row (t : ℕ) (r : Fin 2048) : Fin 8192 := ⟨2048 * (t % 4) + r.val, by have := Nat.mod_lt t (show 0 < 4 by norm_num); omega⟩

/-- The batch of a grid point, as a number. -/
theorem bat_val (t : ℕ) : (bat t).val = t / 4 % 4 := rfl

/-- The point that a row of a grid point's block is, as a number. -/
theorem row_val (t : ℕ) (r : Fin 2048) : (row t r).val = t % 4 * 2048 + r.val := by show 2048 * (t % 4) + _ = _; omega

/-- One block's part of the sum. -/
def part (f : Fin 4 → Fin 8192 → ℝ) (t : ℕ) : ℝ := ∑ r : Fin 2048, f (bat t) (row t r)

/-- A sum over 8192 rows, by four blocks. -/
theorem sum_rows (g : Fin 8192 → ℝ) (b : ℕ) :
    ∑ n, g n = ∑ q : Fin 4, ∑ r : Fin 2048, g (row (4 * b + q.val) r) := by
  rw [← Fintype.sum_prod_type']
  refine (Fintype.sum_equiv (finProdFinEquiv (m := 4) (n := 2048)) _ _ fun p => ?_).symm
  congr 1
  apply Fin.ext
  show 2048 * ((4 * b + p.1.val) % 4) + p.2.val = p.2.val + 2048 * p.1.val
  have := p.1.isLt
  omega

/-- All sixteen blocks together. -/
theorem sum_parts (f : Fin 4 → Fin 8192 → ℝ) : ∑ t ∈ Finset.range 16, part f t = ∑ b, ∑ n, f b n := by
  have h : ∀ b : Fin 4, ∑ n, f b n = ∑ q : Fin 4, part f (4 * b.val + q.val) := fun b => by
    rw [sum_rows (f b) b.val]
    refine Finset.sum_congr rfl fun q _ => ?_
    unfold part
    have : bat (4 * b.val + q.val) = b := by
      apply Fin.ext; show (4 * b.val + q.val) / 4 % 4 = b.val
      have := q.isLt; have := b.isLt; omega
    rw [this]
  rw [Finset.sum_congr rfl fun b _ => h b]
  simp only [Finset.sum_range_succ, Finset.sum_range_zero, Fin.sum_univ_four, zero_add]
  norm_num
  ring

end Cert.Knn

end
-- ==== Proof.Reg0.lean ====
/- The arrays the first call leaves: the first layer before normalisation, and its sums over all rows. -/
module

public import proofs.«01_k».proof.Proof.Out1
public import proofs.«01_k».proof.Proof.Sums
public import Idealize.ShloMosaic.Lib.Pipeline.ValueKit.Geometry
public import Idealize.ShloMosaic.Lib.Pipeline.ValueKit.Acc
public import Idealize.ShloMosaic.Lib.Pipeline.ValueKit.Point

@[expose] public section

noncomputable section

namespace Cert.Knn

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The block that window 0 of call 0 names at a grid point. -/
theorem i0_0 : ∀ t : Fin cfg0.N, win0_0.index t = ![t.val / 4 % 4, t.val % 4, 0] := (by decide +kernel : ∀ t : Fin grid0.N, _)
/-- The block that window 1 of call 0 names at a grid point. -/
theorem i0_1 : ∀ t : Fin cfg0.N, win0_1.index t = ![t.val / 4 % 4, 0, 0] := (by decide +kernel : ∀ t : Fin grid0.N, _)
/-- The block that window 2 of call 0 names at a grid point. -/
theorem i0_2 : ∀ t : Fin cfg0.N, win0_2.index t = ![t.val / 4 % 4, 0, 0] := (by decide +kernel : ∀ t : Fin grid0.N, _)
/-- The block that window 3 of call 0 names at a grid point. -/
theorem i0_3 : ∀ t : Fin cfg0.N, win0_3.index t = ![t.val / 4 % 4, t.val % 4, 0] := (by decide +kernel : ∀ t : Fin grid0.N, _)
/-- The block that window 4 of call 0 names at a grid point. -/
theorem i0_4 : ∀ t : Fin cfg0.N, win0_4.index t = ![0, 0] := (by decide +kernel : ∀ t : Fin grid0.N, _)
/-- The block that window 5 of call 0 names at a grid point. -/
theorem i0_5 : ∀ t : Fin cfg0.N, win0_5.index t = ![0, 0] := (by decide +kernel : ∀ t : Fin grid0.N, _)
/-- The block that window 6 of call 0 names at a grid point. -/
theorem i0_6 : ∀ t : Fin cfg0.N, win0_6.index t = ![0, 0] := (by decide +kernel : ∀ t : Fin grid0.N, _)
/-- The block that window 7 of call 0 names at a grid point. -/
theorem i0_7 : ∀ t : Fin cfg0.N, win0_7.index t = ![t.val / 4 % 4, t.val % 4, 0] := (by decide +kernel : ∀ t : Fin grid0.N, _)
/-- The block that window 8 of call 0 names at a grid point. -/
theorem i0_8 : ∀ t : Fin cfg0.N, win0_8.index t = ![0, 0] := (by decide +kernel : ∀ t : Fin grid0.N, _)
/-- The block that window 9 of call 0 names at a grid point. -/
theorem i0_9 : ∀ t : Fin cfg0.N, win0_9.index t = ![0, 0] := (by decide +kernel : ∀ t : Fin grid0.N, _)

/-- The points' block, at coordinates. -/
theorem iblk0_0 (c : Dev nD) (t : Fin cfg0.N) (n : Fin 2048) (k : Fin 3) :
    (iblk0 V c 0 t : Vec Ideal S1x2048x3 .f32) (ix3 0 n k) = V c main_v0 (ix3 (bat t.val) (row t.val n) k) := by
  blk_simp [iblk0]
  congr 1
  blk_ext [i0_0, bat_val, row_val]

/-- The samples' block. -/
theorem iblk0_1 (c : Dev nD) (t : Fin cfg0.N) (k : Fin 3) (n : Fin 2048) :
    (iblk0 V c 1 t : Vec Ideal S1x3x2048 .f32) (ix3 0 k n) = V c main_arg1 (ix3 (bat t.val) k n) := by
  blk_simp [iblk0]
  congr 1
  blk_ext [i0_1, bat_val, row_val]

/-- The samples' features' block. -/
theorem iblk0_2 (c : Dev nD) (t : Fin cfg0.N) (n : Fin 2048) (k : Fin 256) :
    (iblk0 V c 2 t : Vec Ideal S1x2048x256 .f32) (ix3 0 n k) = V c main_v2 (ix3 (bat t.val) n k) := by
  blk_simp [iblk0]
  congr 1
  blk_ext [i0_2, bat_val, row_val]

/-- The points' features' block. -/
theorem iblk0_3 (c : Dev nD) (t : Fin cfg0.N) (n : Fin 2048) (k : Fin 128) :
    (iblk0 V c 3 t : Vec Ideal S1x2048x128 .f32) (ix3 0 n k) = V c main_v1 (ix3 (bat t.val) (row t.val n) k) := by
  blk_simp [iblk0]
  congr 1
  blk_ext [i0_3, bat_val, row_val]

/-- The first weights. -/
theorem iblk0_4 (c : Dev nD) (t : Fin cfg0.N) (i : Fin 128) (o : Fin 256) :
    (iblk0 V c 4 t : Vec Ideal S128x256 .f32) (ix2 i o) = V c main_v4 (ix2 i o) := by
  blk_simp [iblk0]
  congr 1
  blk_ext [i0_4, bat_val, row_val]

/-- The second weights. -/
theorem iblk0_5 (c : Dev nD) (t : Fin cfg0.N) (i : Fin 256) (o : Fin 256) :
    (iblk0 V c 5 t : Vec Ideal S256x256 .f32) (ix2 i o) = V c main_v6 (ix2 i o) := by
  blk_simp [iblk0]
  congr 1
  blk_ext [i0_5, bat_val, row_val]

/-- The bias. -/
theorem iblk0_6 (c : Dev nD) (t : Fin cfg0.N) (z : Fin 1) (o : Fin 256) :
    (iblk0 V c 6 t : Vec Ideal S1x256 .f32) (ix2 z o) = V c main_v8 (ix2 z o) := by
  blk_simp [iblk0]
  congr 1
  blk_ext [i0_6, bat_val, row_val]

/-- What the first call finds in its operands. -/
structure In0 (I : Inp) (c : Dev nD) : Prop where
  p1 : ∀ b n k, V c main_v0 (ix3 b n k) = ((I.p1 b k n : ℝ) : EReal)
  p2 : ∀ b k s, V c main_arg1 (ix3 b k s) = ((I.p2 b k s : ℝ) : EReal)
  f2 : ∀ b s i, V c main_v2 (ix3 b s i) = ((I.f2 b i s : ℝ) : EReal)
  f1 : ∀ b n i, V c main_v1 (ix3 b n i) = ((I.f1 b i n : ℝ) : EReal)
  wa : ∀ (i : Fin 128) o, V c main_v4 (ix2 i o) = ((I.W1 o (Fin.castLE (by omega) i) : ℝ) : EReal)
  wb : ∀ (i : Fin 256) o, V c main_v6 (ix2 i o) = ((I.W1 o ⟨128 + i.val, by omega⟩ : ℝ) : EReal)
  b1 : ∀ o, V c main_v8 (ix2 0 o) = ((I.b1 o : ℝ) : EReal)

variable {V} {I : Inp} {c : Dev nD} (H : In0 V I c)
include H

/-- A block of the first layer at a point. -/
theorem blk0_at (t : Fin cfg0.N) (n : Fin 2048) (o : Fin 256) :
    k0_pay10 (F := Ideal) (wts (iblk0 V c 0 t) (iblk0 V c 1 t)) (iblk0 V c 2 t) (iblk0 V c 3 t) (iblk0 V c 4 t) (iblk0 V c 5 t) (iblk0 V c 6 t) (ix2 n o)
      = ((I.c1 o (bat t.val) (row t.val n) : ℝ) : EReal) :=
  pay10_at n o (I.d (bat t.val) (row t.val n)) (I.f2 (bat t.val)) (fun i => I.f1 (bat t.val) i (row t.val n)) _ _ _
    (fun s => wts_at (A := fun n k => I.p1 (bat t.val) k (row t.val n)) (B := I.p2 (bat t.val))
      (fun n k => (iblk0_0 V c t n k).trans (H.p1 _ _ _)) (fun k s => (iblk0_1 V c t k s).trans (H.p2 _ _ _)) n s)
    (fun s i => (iblk0_2 V c t s i).trans (H.f2 _ _ _)) (fun i => (iblk0_3 V c t n i).trans (H.f1 _ _ _))
    (fun i => (iblk0_4 V c t i o).trans (H.wa _ _)) (fun i => (iblk0_5 V c t i o).trans (H.wb _ _))
    ((iblk0_6 V c t 0 o).trans (H.b1 _))

/-- The three output blocks after point `n`. -/
theorem outs0_at : ∀ (n : ℕ) (hn : n < cfg0.N),
    (∀ (z : Fin 1) (r : Fin 2048) (o : Fin 256), (outsAt0 V c n hn).1 (ix3 z r o) = ((I.c1 o (bat n) (row n r) : ℝ) : EReal))
    ∧ (∀ (z : Fin 1) (o : Fin 256), (outsAt0 V c n hn).2.1 (ix2 z o) = ((∑ t ∈ Finset.range (n + 1), part (I.c1 o) t : ℝ) : EReal))
    ∧ (∀ (z : Fin 1) (o : Fin 256), (outsAt0 V c n hn).2.2 (ix2 z o)
        = ((∑ t ∈ Finset.range (n + 1), part (fun b n => I.c1 o b n * I.c1 o b n) t : ℝ) : EReal)) := by
  have hs : ∀ (t : Fin cfg0.N) (o : Fin 256), (∑ n : Fin 2048, k0_pay10 (F := Ideal) (wts (iblk0 V c 0 t) (iblk0 V c 1 t)) (iblk0 V c 2 t)
      (iblk0 V c 3 t) (iblk0 V c 4 t) (iblk0 V c 5 t) (iblk0 V c 6 t) (ix2 n o)) = ((part (I.c1 o) t.val : ℝ) : EReal) := fun t o =>
    sum_coe _ _ fun n => blk0_at H t n o
  have hq : ∀ (t : Fin cfg0.N) (o : Fin 256), (∑ n : Fin 2048, k0_pay10 (F := Ideal) (wts (iblk0 V c 0 t) (iblk0 V c 1 t)) (iblk0 V c 2 t)
      (iblk0 V c 3 t) (iblk0 V c 4 t) (iblk0 V c 5 t) (iblk0 V c 6 t) (ix2 n o) * k0_pay10 (F := Ideal) (wts (iblk0 V c 0 t) (iblk0 V c 1 t))
      (iblk0 V c 2 t) (iblk0 V c 3 t) (iblk0 V c 4 t) (iblk0 V c 5 t) (iblk0 V c 6 t) (ix2 n o))
      = ((part (fun b n => I.c1 o b n * I.c1 o b n) t.val : ℝ) : EReal) := fun t o =>
    sum_coe _ (fun n => I.c1 o (bat t.val) (row t.val n) * I.c1 o (bat t.val) (row t.val n)) fun n => by rw [blk0_at H t n o, EReal.coe_mul]
  intro n
  induction n with
  | zero =>
    intro hn
    have e := outsAt0_A V c ⟨0, hn⟩ rfl
    rw [out0_A_7_eq, out0_A_8_eq, out0_A_9_eq] at e
    refine ⟨fun z r o => ?_, fun z o => ?_, fun z o => ?_⟩
    · rw [e]; exact (pay11_at _ _ _ _ _ _ z r o).trans (blk0_at H ⟨0, hn⟩ r o)
    · rw [e]; refine (pay14_at _ _ _ _ _ _ _ z o).trans ?_
      rw [pay12_at, zero_add, hs]; simp
    · rw [e]; refine (pay1_at _ _ z o).trans ?_
      rw [pay13_at, zero_add, hq]; simp
  | succ n ih =>
    intro hn
    obtain ⟨-, ih2, ih3⟩ := ih (Nat.lt_of_succ_lt hn)
    have hN : cfg0.N = 16 := N_0
    have e := outsAt0_B V c ⟨n + 1, hn⟩ (by dsimp only; omega)
    rw [out0_B_7_eq, out0_B_8_eq, out0_B_9_eq] at e
    refine ⟨fun z r o => ?_, fun z o => ?_, fun z o => ?_⟩
    · rw [e]; exact (pay11_at _ _ _ _ _ _ z r o).trans (blk0_at H ⟨n + 1, hn⟩ r o)
    · rw [e]; refine (pay14_at _ _ _ _ _ _ _ z o).trans ?_
      rw [hs, Finset.sum_range_succ, EReal.coe_add]; exact congrArg (· + _) (ih2 z o)
    · rw [e]; refine (pay1_at _ _ z o).trans ?_
      rw [hq, Finset.sum_range_succ, EReal.coe_add]; exact congrArg (· + _) (ih3 z o)

/-- The first layer before normalisation, as the array the call leaves. -/
theorem arr0_7 (b : Fin 4) (n : Fin 8192) (o : Fin 256) :
    (dat0 V c).arrAt 7 cfg0.N (ix3 b n o) = ((I.h1 b n o : ℝ) : EReal) := by
  have h : (dat0 V c).arrAt 7 cfg0.N = fun j => ((I.h1 (j 0) (j 1) (j 2) : ℝ) : EReal) := by
    refine (dat0 V c).arrAt_eq_of_covers 7 _ (by decide +kernel) fun t hf y => ?_
    blk_simp
    rw [after0_7]
    have he : (win0_7.blk t).view.emb y = ix3 (bat t.val) (row t.val (y 1)) (y 2) := by
      blk_ext [i0_7, bat_val, row_val]
      exact (row_val _ _).symm
    rw [he]
    exact (congrArg _ (eq_ix3 (n0 := 1) (n1 := 2048) (n2 := 256) y)).trans ((outs0_at H t.val t.isLt).1 (y 0) (y 1) (y 2))
  rw [h]; rfl

/-- The sums over all rows. -/
theorem arr0_8 (o : Fin 256) :
    (dat0 V c).arrAt 8 cfg0.N (ix2 0 o) = ((∑ b, ∑ n, I.c1 o b n : ℝ) : EReal) := by
  have h : (dat0 V c).arrAt 8 cfg0.N = fun j => ((∑ b, ∑ n, I.c1 (j 1) b n : ℝ) : EReal) := by
    refine (dat0 V c).arrAt_eq_of_covers 8 _ (by decide +kernel) fun t hf y => ?_
    blk_simp
    rw [after0_8]
    have ht : t.val = 15 := by have := (flush0_8 t).mp hf; have := t.isLt; have : cfg0.N = 16 := N_0; omega
    have he : (win0_8.blk t).view.emb y = ix2 (y 0) (y 1) := by
      blk_ext [i0_8]
    rw [he]
    refine (congrArg _ (eq_ix2 (n0 := 1) (n1 := 256) y)).trans (((outs0_at H t.val t.isLt).2.1 (y 0) (y 1)).trans ?_)
    rw [ht]
    exact congrArg _ (sum_parts _)
  rw [h]; rfl

/-- The sums of squares over all rows. -/
theorem arr0_9 (o : Fin 256) :
    (dat0 V c).arrAt 9 cfg0.N (ix2 0 o) = ((∑ b, ∑ n, I.c1 o b n * I.c1 o b n : ℝ) : EReal) := by
  have h : (dat0 V c).arrAt 9 cfg0.N = fun j => ((∑ b, ∑ n, I.c1 (j 1) b n * I.c1 (j 1) b n : ℝ) : EReal) := by
    refine (dat0 V c).arrAt_eq_of_covers 9 _ (by decide +kernel) fun t hf y => ?_
    blk_simp
    rw [after0_9]
    have ht : t.val = 15 := by have := (flush0_9 t).mp hf; have := t.isLt; have : cfg0.N = 16 := N_0; omega
    have he : (win0_9.blk t).view.emb y = ix2 (y 0) (y 1) := by
      blk_ext [i0_9]
    rw [he]
    refine (congrArg _ (eq_ix2 (n0 := 1) (n1 := 256) y)).trans (((outs0_at H t.val t.isLt).2.2 (y 0) (y 1)).trans ?_)
    rw [ht]
    exact congrArg _ (sum_parts fun b n => I.c1 (y 1) b n * I.c1 (y 1) b n)
  rw [h]; rfl

end Cert.Knn

end
-- ==== Proof.Reg1.lean ====
/- The arrays the second call leaves: the second layer before normalisation, and its sums over all rows. -/
module

public import proofs.«01_k».proof.Proof.Reg0
public import Idealize.ShloMosaic.Lib.Pipeline.ValueKit.Geometry
public import Idealize.ShloMosaic.Lib.Pipeline.ValueKit.Acc
public import Idealize.ShloMosaic.Lib.Pipeline.ValueKit.Point

@[expose] public section

noncomputable section

namespace Cert.Knn

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The block that window 0 of call 1 names at a grid point. -/
theorem i1_0 : ∀ t : Fin cfg1.N, win1_0.index t = ![t.val / 4 % 4, t.val % 4, 0] := (by decide +kernel : ∀ t : Fin grid1.N, _)
/-- The block that window 1 of call 1 names at a grid point. -/
theorem i1_1 : ∀ t : Fin cfg1.N, win1_1.index t = ![0, 0] := (by decide +kernel : ∀ t : Fin grid1.N, _)
/-- The block that window 2 of call 1 names at a grid point. -/
theorem i1_2 : ∀ t : Fin cfg1.N, win1_2.index t = ![0, 0] := (by decide +kernel : ∀ t : Fin grid1.N, _)
/-- The block that window 3 of call 1 names at a grid point. -/
theorem i1_3 : ∀ t : Fin cfg1.N, win1_3.index t = ![0, 0] := (by decide +kernel : ∀ t : Fin grid1.N, _)
/-- The block that window 4 of call 1 names at a grid point. -/
theorem i1_4 : ∀ t : Fin cfg1.N, win1_4.index t = ![0, 0] := (by decide +kernel : ∀ t : Fin grid1.N, _)
/-- The block that window 5 of call 1 names at a grid point. -/
theorem i1_5 : ∀ t : Fin cfg1.N, win1_5.index t = ![0, 0] := (by decide +kernel : ∀ t : Fin grid1.N, _)
/-- The block that window 6 of call 1 names at a grid point. -/
theorem i1_6 : ∀ t : Fin cfg1.N, win1_6.index t = ![0, 0] := (by decide +kernel : ∀ t : Fin grid1.N, _)
/-- The block that window 7 of call 1 names at a grid point. -/
theorem i1_7 : ∀ t : Fin cfg1.N, win1_7.index t = ![t.val / 4 % 4, t.val % 4, 0] := (by decide +kernel : ∀ t : Fin grid1.N, _)
/-- The block that window 8 of call 1 names at a grid point. -/
theorem i1_8 : ∀ t : Fin cfg1.N, win1_8.index t = ![0, 0] := (by decide +kernel : ∀ t : Fin grid1.N, _)
/-- The block that window 9 of call 1 names at a grid point. -/
theorem i1_9 : ∀ t : Fin cfg1.N, win1_9.index t = ![0, 0] := (by decide +kernel : ∀ t : Fin grid1.N, _)

/-- The first layer's block, at coordinates. -/
theorem iblk1_0 (c : Dev nD) (t : Fin cfg1.N) (n : Fin 2048) (k : Fin 256) :
    (iblk1 V c 0 t : Vec Ideal S1x2048x256 .f32) (ix3 0 n k) = V c main_v9_0 (ix3 (bat t.val) (row t.val n) k) := by
  blk_simp [iblk1]
  congr 1
  blk_ext [i1_0, bat_val, row_val]

/-- The sums. -/
theorem iblk1_1 (c : Dev nD) (t : Fin cfg1.N) (z : Fin 1) (o : Fin 256) :
    (iblk1 V c 1 t : Vec Ideal S1x256 .f32) (ix2 z o) = V c main_v9_1 (ix2 z o) := by
  blk_simp [iblk1]
  congr 1
  blk_ext [i1_1, bat_val, row_val]

/-- The sums of squares. -/
theorem iblk1_2 (c : Dev nD) (t : Fin cfg1.N) (z : Fin 1) (o : Fin 256) :
    (iblk1 V c 2 t : Vec Ideal S1x256 .f32) (ix2 z o) = V c main_v9_2 (ix2 z o) := by
  blk_simp [iblk1]
  congr 1
  blk_ext [i1_2, bat_val, row_val]

/-- The scale. -/
theorem iblk1_3 (c : Dev nD) (t : Fin cfg1.N) (z : Fin 1) (o : Fin 256) :
    (iblk1 V c 3 t : Vec Ideal S1x256 .f32) (ix2 z o) = V c main_v10 (ix2 z o) := by
  blk_simp [iblk1]
  congr 1
  blk_ext [i1_3, bat_val, row_val]

/-- The shift. -/
theorem iblk1_4 (c : Dev nD) (t : Fin cfg1.N) (z : Fin 1) (o : Fin 256) :
    (iblk1 V c 4 t : Vec Ideal S1x256 .f32) (ix2 z o) = V c main_v11 (ix2 z o) := by
  blk_simp [iblk1]
  congr 1
  blk_ext [i1_4, bat_val, row_val]

/-- The weights. -/
theorem iblk1_5 (c : Dev nD) (t : Fin cfg1.N) (i : Fin 256) (o : Fin 128) :
    (iblk1 V c 5 t : Vec Ideal S256x128 .f32) (ix2 i o) = V c main_v7 (ix2 i o) := by
  blk_simp [iblk1]
  congr 1
  blk_ext [i1_5, bat_val, row_val]

/-- The bias. -/
theorem iblk1_6 (c : Dev nD) (t : Fin cfg1.N) (z : Fin 1) (o : Fin 128) :
    (iblk1 V c 6 t : Vec Ideal S1x128 .f32) (ix2 z o) = V c main_v12 (ix2 z o) := by
  blk_simp [iblk1]
  congr 1
  blk_ext [i1_6, bat_val, row_val]

/-- What the second call finds in its operands. -/
structure In1 (I : Inp) (c : Dev nD) : Prop where
  h1 : ∀ b n o, V c main_v9_0 (ix3 b n o) = ((I.h1 b n o : ℝ) : EReal)
  s : ∀ o, V c main_v9_1 (ix2 0 o) = ((∑ b, ∑ n, I.c1 o b n : ℝ) : EReal)
  ss : ∀ o, V c main_v9_2 (ix2 0 o) = ((∑ b, ∑ n, I.c1 o b n * I.c1 o b n : ℝ) : EReal)
  g1 : ∀ o, V c main_v10 (ix2 0 o) = ((I.g1 o : ℝ) : EReal)
  be1 : ∀ o, V c main_v11 (ix2 0 o) = ((I.be1 o : ℝ) : EReal)
  w2 : ∀ i o, V c main_v7 (ix2 i o) = ((I.W2 o i : ℝ) : EReal)
  b2 : ∀ o, V c main_v12 (ix2 0 o) = ((I.b2 o : ℝ) : EReal)

variable {V} {I : Inp} {c : Dev nD} (H : In1 V I c)
include H

/-- A block of the second layer at a point. -/
theorem blk1_at (t : Fin cfg1.N) (n : Fin 2048) (o : Fin 128) :
    k1_pay6 (F := Ideal) (iblk1 V c 1 t) (iblk1 V c 2 t) (iblk1 V c 3 t) (iblk1 V c 0 t) (iblk1 V c 4 t) (iblk1 V c 5 t) (iblk1 V c 6 t) (ix2 n o)
      = ((I.c2 o (bat t.val) (row t.val n) : ℝ) : EReal) :=
  k1pay6_at n o I.c1 (I.h1 (bat t.val) (row t.val n)) I.g1 I.be1 (I.W2 o) (I.b2 o)
    (fun i => (iblk1_1 V c t 0 i).trans (H.s _)) (fun i => (iblk1_2 V c t 0 i).trans (H.ss _))
    (fun i => (iblk1_3 V c t 0 i).trans (H.g1 _)) (fun i => (iblk1_0 V c t n i).trans (H.h1 _ _ _))
    (fun i => (iblk1_4 V c t 0 i).trans (H.be1 _)) (fun i => (iblk1_5 V c t i o).trans (H.w2 _ _))
    ((iblk1_6 V c t 0 o).trans (H.b2 _))

/-- The three output blocks after point `n`. -/
theorem outs1_at : ∀ (n : ℕ) (hn : n < cfg1.N),
    (∀ (z : Fin 1) (r : Fin 2048) (o : Fin 128), (outsAt1 V c n hn).1 (ix3 z r o) = ((I.c2 o (bat n) (row n r) : ℝ) : EReal))
    ∧ (∀ (z : Fin 1) (o : Fin 128), (outsAt1 V c n hn).2.1 (ix2 z o) = ((∑ t ∈ Finset.range (n + 1), part (I.c2 o) t : ℝ) : EReal))
    ∧ (∀ (z : Fin 1) (o : Fin 128), (outsAt1 V c n hn).2.2 (ix2 z o)
        = ((∑ t ∈ Finset.range (n + 1), part (fun b n => I.c2 o b n * I.c2 o b n) t : ℝ) : EReal)) := by
  have hs : ∀ (t : Fin cfg1.N) (o : Fin 128), (∑ n : Fin 2048, k1_pay6 (F := Ideal) (iblk1 V c 1 t) (iblk1 V c 2 t) (iblk1 V c 3 t)
      (iblk1 V c 0 t) (iblk1 V c 4 t) (iblk1 V c 5 t) (iblk1 V c 6 t) (ix2 n o)) = ((part (I.c2 o) t.val : ℝ) : EReal) := fun t o =>
    sum_coe _ _ fun n => blk1_at H t n o
  have hq : ∀ (t : Fin cfg1.N) (o : Fin 128), (∑ n : Fin 2048, k1_pay6 (F := Ideal) (iblk1 V c 1 t) (iblk1 V c 2 t) (iblk1 V c 3 t)
      (iblk1 V c 0 t) (iblk1 V c 4 t) (iblk1 V c 5 t) (iblk1 V c 6 t) (ix2 n o) * k1_pay6 (F := Ideal) (iblk1 V c 1 t) (iblk1 V c 2 t)
      (iblk1 V c 3 t) (iblk1 V c 0 t) (iblk1 V c 4 t) (iblk1 V c 5 t) (iblk1 V c 6 t) (ix2 n o))
      = ((part (fun b n => I.c2 o b n * I.c2 o b n) t.val : ℝ) : EReal) := fun t o =>
    sum_coe _ (fun n => I.c2 o (bat t.val) (row t.val n) * I.c2 o (bat t.val) (row t.val n)) fun n => by rw [blk1_at H t n o, EReal.coe_mul]
  intro n
  induction n with
  | zero =>
    intro hn
    have e := outsAt1_A V c ⟨0, hn⟩ rfl
    rw [out1_A_7_eq, out1_A_8_eq, out1_A_9_eq] at e
    refine ⟨fun z r o => ?_, fun z o => ?_, fun z o => ?_⟩
    · rw [e]; exact (k1pay1_at _ z r o).trans (blk1_at H ⟨0, hn⟩ r o)
    · rw [e]; refine (k1pay4_at _ _ z o).trans ?_
      rw [k1pay2_at, zero_add, hs]; simp
    · rw [e]; refine (k1pay5_at _ _ z o).trans ?_
      rw [k1pay3_at, zero_add, hq]; simp
  | succ n ih =>
    intro hn
    obtain ⟨-, ih2, ih3⟩ := ih (Nat.lt_of_succ_lt hn)
    have hN : cfg1.N = 16 := N_1
    have e := outsAt1_B V c ⟨n + 1, hn⟩ (by dsimp only; omega)
    rw [out1_B_7_eq, out1_B_8_eq, out1_B_9_eq] at e
    refine ⟨fun z r o => ?_, fun z o => ?_, fun z o => ?_⟩
    · rw [e]; exact (k1pay1_at _ z r o).trans (blk1_at H ⟨n + 1, hn⟩ r o)
    · rw [e]; refine (k1pay4_at _ _ z o).trans ?_
      rw [hs, Finset.sum_range_succ, EReal.coe_add]; exact congrArg (· + _) (ih2 z o)
    · rw [e]; refine (k1pay5_at _ _ z o).trans ?_
      rw [hq, Finset.sum_range_succ, EReal.coe_add]; exact congrArg (· + _) (ih3 z o)

/-- The second layer before normalisation, as the array the call leaves. -/
theorem arr1_7 (b : Fin 4) (n : Fin 8192) (o : Fin 128) :
    (dat1 V c).arrAt 7 cfg1.N (ix3 b n o) = ((I.h2 b n o : ℝ) : EReal) := by
  have h : (dat1 V c).arrAt 7 cfg1.N = fun j => ((I.h2 (j 0) (j 1) (j 2) : ℝ) : EReal) := by
    refine (dat1 V c).arrAt_eq_of_covers 7 _ (by decide +kernel) fun t hf y => ?_
    blk_simp
    rw [after1_7]
    have he : (win1_7.blk t).view.emb y = ix3 (bat t.val) (row t.val (y 1)) (y 2) := by
      blk_ext [i1_7, bat_val, row_val]
      exact (row_val _ _).symm
    rw [he]
    exact (congrArg _ (eq_ix3 (n0 := 1) (n1 := 2048) (n2 := 128) y)).trans ((outs1_at H t.val t.isLt).1 (y 0) (y 1) (y 2))
  rw [h]; rfl

/-- The sums over all rows. -/
theorem arr1_8 (o : Fin 128) :
    (dat1 V c).arrAt 8 cfg1.N (ix2 0 o) = ((∑ b, ∑ n, I.c2 o b n : ℝ) : EReal) := by
  have h : (dat1 V c).arrAt 8 cfg1.N = fun j => ((∑ b, ∑ n, I.c2 (j 1) b n : ℝ) : EReal) := by
    refine (dat1 V c).arrAt_eq_of_covers 8 _ (by decide +kernel) fun t hf y => ?_
    blk_simp
    rw [after1_8]
    have ht : t.val = 15 := by have := (flush1_8 t).mp hf; have := t.isLt; have : cfg1.N = 16 := N_1; omega
    have he : (win1_8.blk t).view.emb y = ix2 (y 0) (y 1) := by
      blk_ext [i1_8]
    rw [he]
    refine (congrArg _ (eq_ix2 (n0 := 1) (n1 := 128) y)).trans (((outs1_at H t.val t.isLt).2.1 (y 0) (y 1)).trans ?_)
    rw [ht]
    exact congrArg _ (sum_parts _)
  rw [h]; rfl

/-- The sums of squares over all rows. -/
theorem arr1_9 (o : Fin 128) :
    (dat1 V c).arrAt 9 cfg1.N (ix2 0 o) = ((∑ b, ∑ n, I.c2 o b n * I.c2 o b n : ℝ) : EReal) := by
  have h : (dat1 V c).arrAt 9 cfg1.N = fun j => ((∑ b, ∑ n, I.c2 (j 1) b n * I.c2 (j 1) b n : ℝ) : EReal) := by
    refine (dat1 V c).arrAt_eq_of_covers 9 _ (by decide +kernel) fun t hf y => ?_
    blk_simp
    rw [after1_9]
    have ht : t.val = 15 := by have := (flush1_9 t).mp hf; have := t.isLt; have : cfg1.N = 16 := N_1; omega
    have he : (win1_9.blk t).view.emb y = ix2 (y 0) (y 1) := by
      blk_ext [i1_9]
    rw [he]
    refine (congrArg _ (eq_ix2 (n0 := 1) (n1 := 128) y)).trans (((outs1_at H t.val t.isLt).2.2 (y 0) (y 1)).trans ?_)
    rw [ht]
    exact congrArg _ (sum_parts fun b n => I.c2 (y 1) b n * I.c2 (y 1) b n)
  rw [h]; rfl

end Cert.Knn

end
-- ==== Proof.Reg2.lean ====
/- The array the third call leaves: the result. -/
module

public import proofs.«01_k».proof.Proof.Reg1
public import Idealize.ShloMosaic.Lib.Pipeline.ValueKit.Geometry
public import Idealize.ShloMosaic.Lib.Pipeline.ValueKit.Acc
public import Idealize.ShloMosaic.Lib.Pipeline.ValueKit.Point

@[expose] public section

noncomputable section

namespace Cert.Knn

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The block that window 0 of call 2 names at a grid point. -/
theorem i2_0 : ∀ t : Fin cfg2.N, win2_0.index t = ![t.val / 4 % 4, t.val % 4, 0] := (by decide +kernel : ∀ t : Fin grid2.N, _)
/-- The block that window 1 of call 2 names at a grid point. -/
theorem i2_1 : ∀ t : Fin cfg2.N, win2_1.index t = ![0, 0] := (by decide +kernel : ∀ t : Fin grid2.N, _)
/-- The block that window 2 of call 2 names at a grid point. -/
theorem i2_2 : ∀ t : Fin cfg2.N, win2_2.index t = ![0, 0] := (by decide +kernel : ∀ t : Fin grid2.N, _)
/-- The block that window 3 of call 2 names at a grid point. -/
theorem i2_3 : ∀ t : Fin cfg2.N, win2_3.index t = ![0, 0] := (by decide +kernel : ∀ t : Fin grid2.N, _)
/-- The block that window 4 of call 2 names at a grid point. -/
theorem i2_4 : ∀ t : Fin cfg2.N, win2_4.index t = ![0, 0] := (by decide +kernel : ∀ t : Fin grid2.N, _)
/-- The block that window 5 of call 2 names at a grid point. -/
theorem i2_5 : ∀ t : Fin cfg2.N, win2_5.index t = ![t.val / 4 % 4, 0, t.val % 4] := (by decide +kernel : ∀ t : Fin grid2.N, _)

/-- The second layer's block, at coordinates. -/
theorem iblk2_0 (c : Dev nD) (t : Fin cfg2.N) (n : Fin 2048) (k : Fin 128) :
    (iblk2 V c 0 t : Vec Ideal S1x2048x128 .f32) (ix3 0 n k) = V c main_v13_0 (ix3 (bat t.val) (row t.val n) k) := by
  blk_simp [iblk2]
  congr 1
  blk_ext [i2_0, bat_val, row_val]

/-- The sums. -/
theorem iblk2_1 (c : Dev nD) (t : Fin cfg2.N) (z : Fin 1) (o : Fin 128) :
    (iblk2 V c 1 t : Vec Ideal S1x128 .f32) (ix2 z o) = V c main_v13_1 (ix2 z o) := by
  blk_simp [iblk2]
  congr 1
  blk_ext [i2_1, bat_val, row_val]

/-- The sums of squares. -/
theorem iblk2_2 (c : Dev nD) (t : Fin cfg2.N) (z : Fin 1) (o : Fin 128) :
    (iblk2 V c 2 t : Vec Ideal S1x128 .f32) (ix2 z o) = V c main_v13_2 (ix2 z o) := by
  blk_simp [iblk2]
  congr 1
  blk_ext [i2_2, bat_val, row_val]

/-- The scale. -/
theorem iblk2_3 (c : Dev nD) (t : Fin cfg2.N) (z : Fin 1) (o : Fin 128) :
    (iblk2 V c 3 t : Vec Ideal S1x128 .f32) (ix2 z o) = V c main_v14 (ix2 z o) := by
  blk_simp [iblk2]
  congr 1
  blk_ext [i2_3, bat_val, row_val]

/-- The shift. -/
theorem iblk2_4 (c : Dev nD) (t : Fin cfg2.N) (z : Fin 1) (o : Fin 128) :
    (iblk2 V c 4 t : Vec Ideal S1x128 .f32) (ix2 z o) = V c main_v15 (ix2 z o) := by
  blk_simp [iblk2]
  congr 1
  blk_ext [i2_4, bat_val, row_val]

/-- What the third call finds in its operands. -/
structure In2 (I : Inp) (g2 be2 : Fin 128 → EReal) (c : Dev nD) : Prop where
  h2 : ∀ b n o, V c main_v13_0 (ix3 b n o) = ((I.h2 b n o : ℝ) : EReal)
  s : ∀ o, V c main_v13_1 (ix2 0 o) = ((∑ b, ∑ n, I.c2 o b n : ℝ) : EReal)
  ss : ∀ o, V c main_v13_2 (ix2 0 o) = ((∑ b, ∑ n, I.c2 o b n * I.c2 o b n : ℝ) : EReal)
  g2 : ∀ o, V c main_v14 (ix2 0 o) = g2 o
  be2 : ∀ o, V c main_v15 (ix2 0 o) = be2 o

variable {V} {I : Inp} {g2 be2 : Fin 128 → EReal} {c : Dev nD} (H : In2 V I g2 be2 c)
include H

/-- The block a point leaves. -/
theorem blk2_at (t : Fin cfg2.N) (z : Fin 1) (o : Fin 128) (n : Fin 2048) :
    (out2_5 (F := Ideal) (iblk2 V c 0 t) (iblk2 V c 1 t) (iblk2 V c 2 t) (iblk2 V c 3 t) (iblk2 V c 4 t)) (ix3 z o n)
      = I.out g2 be2 (bat t.val) o (row t.val n) := by
  unfold out2_5
  rw [View.canon_unit_zero hz3]
  simp only [View.ld_unit_zero (S := S1x2048x128) hz3, View.ld_unit_zero (S := S1x128) hz2]
  refine (k2pay1_at z n o (I.c2 o) (I.h2 (bat t.val) (row t.val n) o) ((iblk2_1 V c t 0 o).trans (H.s _))
    ((iblk2_2 V c t 0 o).trans (H.ss _)) ((iblk2_0 V c t n o).trans (H.h2 _ _ _))).trans ?_
  rw [iblk2_3 V c t 0 o, iblk2_4 V c t 0 o, H.g2, H.be2]
  rfl

/-- The result. -/
theorem arr2_5 (b : Fin 4) (o : Fin 128) (n : Fin 8192) :
    (dat2 V c).arrAt 5 cfg2.N (ix3 b o n) = I.out g2 be2 b o n := by
  have h : (dat2 V c).arrAt 5 cfg2.N = fun j => I.out g2 be2 (j 0) (j 1) (j 2) := by
    refine (dat2 V c).arrAt_eq_of_covers 5 _ (by decide +kernel) fun t hf y => ?_
    blk_simp
    rw [after2_5]
    have he : (win2_5.blk t).view.emb y = ix3 (bat t.val) (y 1) (row t.val (y 2)) := by
      blk_ext [i2_5, bat_val, row_val]
      exact (row_val _ _).symm
    rw [he]
    exact (congrArg _ (eq_ix3 (n0 := 1) (n1 := 128) (n2 := 2048) y)).trans (blk2_at H t (y 0) (y 1) (y 2))
  rw [h]; rfl

end Cert.Knn

end
-- ==== Proof.KRun.lean ====
/- The kernel's run, read at its result. -/
module

public import proofs.«01_k».proof.Proof.Reg2
public import proofs.«01_k».proof.Proof.Args
public import Idealize.ShloMosaic.Lib.StableHlo.Run

@[expose] public section

noncomputable section

namespace Cert.Knn

open Idealize.ShloMosaic Idealize.ShloMosaic.TcCoe Idealize.SL Idealize.SL.Sem Idealize.SL.RA Cert.KernelIdeal Cert.KernelIdeal.Gen
open Idealize.ShloMosaic.Pipeline (Dat)

variable (m : (ℓ : Loc nD τ sig) → Buf (Elt Ideal) ℓ) (ρ : Dev nD → PrngReg)

/-- The memory's arguments on a device, by their real values. -/
abbrev ArgsAt (I : Inp) (g2 be2 : Fin 128 → EReal) (c : Dev nD) : Prop :=
  Args I g2 be2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

variable {I : Inp} {g2 be2 : Fin 128 → EReal} {c : Dev nD} (H : ArgsAt m I g2 be2 c)
include H

/-- The first call's operands. -/
theorem in0 : In0 (V1 m ρ) I c where
  p1 b n k := by
    refine Eq.trans ?_ (H.p1 b k n)
    show StableHlo.after hostOps0 (W0 m ρ c) (Proc.devRef .tc main_v0) (ix3 b n k) = _
    after_results
    pointwise
  p2 b k s := (congrFun (W1_args m ρ c main_arg1 (by decide)) _).trans (H.p2 b k s)
  f2 b s i := by
    refine Eq.trans ?_ (H.f2 b i s)
    show StableHlo.after hostOps0 (W0 m ρ c) (Proc.devRef .tc main_v2) (ix3 b s i) = _
    after_results
    pointwise
  f1 b n i := by
    refine Eq.trans ?_ (H.f1 b i n)
    show StableHlo.after hostOps0 (W0 m ρ c) (Proc.devRef .tc main_v1) (ix3 b n i) = _
    after_results
    pointwise
  wa i o := by
    refine Eq.trans ?_ (H.W1 o (Fin.castLE (by omega) i))
    show StableHlo.after hostOps0 (W0 m ρ c) (Proc.devRef .tc main_v4) (ix2 i o) = _
    after_results
    pointwise
    rfl
  wb i o := by
    refine Eq.trans ?_ (H.W1 o ⟨128 + i.val, by omega⟩)
    show StableHlo.after hostOps0 (W0 m ρ c) (Proc.devRef .tc main_v6) (ix2 i o) = _
    after_results
    pointwise
  b1 o := by
    refine Eq.trans ?_ (H.b1 o)
    show StableHlo.after hostOps0 (W0 m ρ c) (Proc.devRef .tc main_v8) (ix2 0 o) = _
    after_results
    pointwise

/-- The second call's operands. -/
theorem in1 : In1 (V3 m ρ) I c where
  h1 b n o := by
    refine (congrFun (W3_of m ρ c main_v9_0 (by decide)) _).trans ((congrFun (W2_arr m ρ c 7) _).trans (arr0_7 (in0 m ρ H) b n o))
  s o := by
    refine (congrFun (W3_of m ρ c main_v9_1 (by decide)) _).trans ((congrFun (W2_arr m ρ c 8) _).trans (arr0_8 (in0 m ρ H) o))
  ss o := by
    refine (congrFun (W3_of m ρ c main_v9_2 (by decide)) _).trans ((congrFun (W2_arr m ρ c 9) _).trans (arr0_9 (in0 m ρ H) o))
  g1 o := by
    refine Eq.trans ?_ ((congrFun (W2_args m ρ c main_arg6 (by decide)) _).trans (H.g1 o))
    show StableHlo.after hostOps1 (W2 m ρ c) (Proc.devRef .tc main_v10) (ix2 0 o) = _
    after_results
    pointwise
  be1 o := by
    refine Eq.trans ?_ ((congrFun (W2_args m ρ c main_arg7 (by decide)) _).trans (H.be1 o))
    show StableHlo.after hostOps1 (W2 m ρ c) (Proc.devRef .tc main_v11) (ix2 0 o) = _
    after_results
    pointwise
  w2 i o := by
    refine (congrFun ((W3_of m ρ c main_v7 (by decide)).trans (W2_of m ρ c main_v7 (by decide))) _).trans ?_
    refine Eq.trans ?_ (H.W2 o i)
    show StableHlo.after hostOps0 (W0 m ρ c) (Proc.devRef .tc main_v7) (ix2 i o) = _
    after_results
    pointwise
  b2 o := by
    refine Eq.trans ?_ ((congrFun (W2_args m ρ c main_arg9 (by decide)) _).trans (H.b2 o))
    show StableHlo.after hostOps1 (W2 m ρ c) (Proc.devRef .tc main_v12) (ix2 0 o) = _
    after_results
    pointwise

/-- The third call's operands. -/
theorem in2 : In2 (V5 m ρ) I g2 be2 c where
  h2 b n o := by
    refine (congrFun (W5_of m ρ c main_v13_0 (by decide)) _).trans ((congrFun (W4_arr m ρ c 7) _).trans (arr1_7 (in1 m ρ H) b n o))
  s o := by
    refine (congrFun (W5_of m ρ c main_v13_1 (by decide)) _).trans ((congrFun (W4_arr m ρ c 8) _).trans (arr1_8 (in1 m ρ H) o))
  ss o := by
    refine (congrFun (W5_of m ρ c main_v13_2 (by decide)) _).trans ((congrFun (W4_arr m ρ c 9) _).trans (arr1_9 (in1 m ρ H) o))
  g2 o := by
    refine Eq.trans ?_ ((congrFun (W4_args m ρ c main_arg10 (by decide)) _).trans (H.g2 o))
    show StableHlo.after hostOps2 (W4 m ρ c) (Proc.devRef .tc main_v14) (ix2 0 o) = _
    after_results
    pointwise
  be2 o := by
    refine Eq.trans ?_ ((congrFun (W4_args m ρ c main_arg11 (by decide)) _).trans (H.be2 o))
    show StableHlo.after hostOps2 (W4 m ρ c) (Proc.devRef .tc main_v15) (ix2 0 o) = _
    after_results
    pointwise

/-- The kernel's result at an index. -/
theorem kernel_result (b : Fin 4) (o : Fin 128) (n : Fin 8192) :
    (W6 m ρ c main_v16 : Vec Ideal S4x128x8192 .f32) (ix3 b o n) = I.out g2 be2 b o n :=
  (congrFun (W6_arr m ρ c 5) _).trans (arr2_5 (in2 m ρ H) b o n)

end Cert.Knn

end
-- ==== Proof.KVal.lean ====
/- The kernel's run from any memory: what every buffer holds at its end, and so its result and its arguments. -/
module

public import proofs.«01_k».proof.Proof.KRun

@[expose] public section

set_option maxRecDepth 16384

noncomputable section

namespace Cert.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends, and on every device each buffer of the program holds the contents of the last segment's boundary. -/
theorem kernel_ends : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- The run ends with the result holding the last boundary's contents and every argument as launched. -/
theorem kernel_run : θ_run defs (onTc (τ := τ) (main (F := Ideal))) ⟨m, fun _ => 0, ρ⟩ (fun r => ∀ c : Dev nD,
      r.2.mem ((c.tc : Thread nD τ).loc main_v16) = W6 m ρ c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v16 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩) (kernel_ends m ρ)

end Cert.Knn

end
-- ==== Proof.RefOps.lean ====
/- Operations of the reference whose elements the generated reading leaves open, each read at an index. -/
module

public import proofs.«01_k».proof.Proof.Gen.ReferenceIdeal.Read
public import proofs.«01_k».proof.Proof.Spec
public import proofs.«01_k».proof.Proof.RowSel
public import Idealize.ShloMosaic.Lib.Pointwise
public import Idealize.ShloMosaic.Lib.ValueIdxCore
public import Idealize.ShloMosaic.Lib.IdealHost

@[expose] public section

noncomputable section

namespace Cert.Knn

open Idealize.ShloMosaic Idealize.ShloMosaic.TcCoe Cert.ReferenceIdeal Cert.ReferenceIdeal.Gen

/-- The sum over the first and last axes of three, at an index of the middle axis. -/
theorem sum_outer {C : Nat} (h : (⟨3, ![4, C, 8192]⟩ : Shape).ReducesTo [0, 2] ⟨1, ![C]⟩) (hu : 0 < S_.numel)
    (x : FVec Ideal ⟨3, ![4, C, 8192]⟩ .f32) (init : FVec Ideal S_ .f32) (hi : ∀ i, init i = 0) (o : Fin C) :
    Host.reduceAdd x init h hu (ix1 o) = ∑ b : Fin 4, ∑ n : Fin 8192, x (ix3 b o n) := by
  rw [ValueIdx.hostReduceAdd_apply, hi, Ideal.hostReduceAdd, zero_add, ← Fintype.sum_prod_type']
  refine Finset.sum_bij' (fun i _ => ((i 0 : Fin 4), (i 2 : Fin 8192))) (fun p _ => ix3 p.1 o p.2) ?_ ?_ ?_ ?_ ?_
  · intro i _; exact Finset.mem_univ _
  · intro p _
    refine Finset.mem_filter.mpr ⟨Finset.mem_univ _, ?_⟩
    funext b
    match b with
    | ⟨0, _⟩ => rfl
  · intro i hi
    have := congrFun (Finset.mem_filter.mp hi).2 0
    funext a
    match a with
    | ⟨0, _⟩ => rfl
    | ⟨1, _⟩ => exact this.symm
    | ⟨2, _⟩ => rfl
  · intro p _; rfl
  · intro i hi
    have := congrFun (Finset.mem_filter.mp hi).2 0
    congr 1
    funext a
    match a with
    | ⟨0, _⟩ => rfl
    | ⟨1, _⟩ => exact this
    | ⟨2, _⟩ => rfl

/-- An index of a row with its last coordinate replaced. -/
theorem along_row (b : Fin 4) (n : Fin 8192) (c k : Fin 2048) :
    Shape.Idx.along (s := S4x8192x2048) (ix3 b n c) 2 k = ix3 b n k := by
  funext a
  match a with
  | ⟨0, _⟩ => rfl
  | ⟨1, _⟩ => rfl
  | ⟨2, _⟩ => rfl

/-- The position in its row of the element sorted to place `j`, largest first. -/
def topAt (gt : EReal → EReal → BitVec 1) (x : S4x8192x2048.Idx → EReal) (b : Fin 4) (n : Fin 8192) (j : Fin 3) : Fin 2048 :=
  sortedFrom (fun k k' => gt (x (ix3 b n k)) (x (ix3 b n k')) == 1#1) (Fin.castLE (by omega) j)

/-- An operand sorted along its rows, and its companion. -/
theorem sort_row {β : Type} (gt : EReal → EReal → BitVec 1) (x : S4x8192x2048.Idx → EReal) (y : S4x8192x2048.Idx → β)
    (b : Fin 4) (n : Fin 8192) (j : Fin 3) :
    (Host.sort2 S4x8192x2048 2 (fun l r => gt l.1 r.1) x y).1 (ix3 b n (Fin.castLE (by omega) j)) = x (ix3 b n (topAt gt x b n j))
    ∧ (Host.sort2 S4x8192x2048 2 (fun l r => gt l.1 r.1) x y).2 (ix3 b n (Fin.castLE (by omega) j)) = y (ix3 b n (topAt gt x b n j)) := by
  unfold Host.sort2 topAt
  obtain ⟨c, hc⟩ : ∃ c : Fin 2048, c = Fin.castLE (by omega) j := ⟨_, rfl⟩
  rw [← hc]
  rw [dif_pos (show 2 < S4x8192x2048.rank by decide)]
  have he := congrFun (congrArg sortedFrom (funext fun k => funext fun k' => congrArg (· == 1#1)
    (congrArg₂ gt (congrArg x (along_row b n c k)) (congrArg x (along_row b n c k'))))) c
  exact ⟨congrArg x ((along_row b n c _).trans (congrArg (ix3 b n) he)), congrArg y ((along_row b n c _).trans (congrArg (ix3 b n) he))⟩

/-- A slice of the first three of a row. -/
theorem slice_row {α : Type} (x : S4x8192x2048.Idx → α) (h : S4x8192x2048.Slices (fun _ => 0) S4x8192x3)
    (b : Fin 4) (n : Fin 8192) (j : Fin 3) :
    extractStridedSlice S4x8192x3 (fun _ => 0) x h (ix3 b n j) = x (ix3 b n (Fin.castLE (by omega) j)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- The greatest three of a row: their values. -/
theorem topK_values (gt : EReal → EReal → BitVec 1) (x : S4x8192x2048.Idx → EReal) (h : S4x8192x2048.Slices (fun _ => 0) S4x8192x3)
    (b : Fin 4) (n : Fin 8192) (j : Fin 3) :
    (Host.topK S4x8192x3 2 gt x h).1 (ix3 b n j) = x (ix3 b n (topAt gt x b n j)) := by
  exact (slice_row (Host.sort2 S4x8192x2048 2 (fun l r => gt l.1 r.1) x (iotaInDim S4x8192x2048 32 2)).1 h b n j).trans
    (sort_row gt x (iotaInDim S4x8192x2048 32 2) b n j).1

/-- The greatest three of a row: their places. -/
theorem topK_places (gt : EReal → EReal → BitVec 1) (x : S4x8192x2048.Idx → EReal) (h : S4x8192x2048.Slices (fun _ => 0) S4x8192x3)
    (b : Fin 4) (n : Fin 8192) (j : Fin 3) :
    (Host.topK S4x8192x3 2 gt x h).2 (ix3 b n j) = BitVec.ofNat 32 (topAt gt x b n j).val := by
  exact (slice_row (Host.sort2 S4x8192x2048 2 (fun l r => gt l.1 r.1) x (iotaInDim S4x8192x2048 32 2)).2 h b n j).trans
    ((sort_row gt x (iotaInDim S4x8192x2048 32 2) b n j).2.trans rfl)

/-- The dimension numbers of the gather of whole rows. -/
abbrev rowDims : GatherDims S4x2048x256 S4x8192x3x1 S4x8192x3x256 :=
  gather_S4x2048x256_S4x8192x3x1_S4x8192x3x256_3_1_0_0_1_3_11256

/-- The gather of whole rows at a word within range. -/
theorem gather_row (x : S4x2048x256.Idx → EReal) (idx : IVec S4x8192x3x1 32) (b : Fin 4) (n : Fin 8192) (j : Fin 3) (i : Fin 256)
    (s : Fin 2048) (hs : idx (ix4 b n j 0) = BitVec.ofNat 32 s.val) :
    Host.gather rowDims x idx (ix4 b n j i) = x (ix3 b s i) := by
  unfold Host.gather
  congr 1
  funext a
  refine Fin.ext ?_
  show rowDims.start (ix4 b n j i) idx a + rowDims.batchCoord (ix4 b n j i) a + rowDims.offCoord (ix4 b n j i) a = _
  match a with
  | ⟨0, isLt⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, isLt⟩ : Fin S4x2048x256.rank) ∈ rowDims.operandBatchingDims from List.mem_singleton.mpr rfl)]
    rfl
  | ⟨1, isLt⟩ =>
    rw [GatherDims.batchCoord_eq_zero _ _ _ (fun h => by simpa using List.mem_singleton.mp h),
      GatherDims.offCoord_eq_zero _ _ _ (fun h => ((GatherDims.mem_sKept _ _).mp h).1 (List.mem_singleton.mpr rfl))]
    simp only [Nat.add_zero]
    unfold GatherDims.start
    rw [dif_pos (show (⟨1, isLt⟩ : Fin S4x2048x256.rank) ∈ rowDims.startIndexMap from List.mem_singleton.mpr rfl)]
    have hsi : rowDims.siIdx (ix4 b n j i) ⟨List.idxOf (⟨1, isLt⟩ : Fin S4x2048x256.rank) rowDims.startIndexMap,
        List.idxOf_lt_length_iff.2 (List.mem_singleton.mpr rfl)⟩ = ix4 b n j 0 := by
      funext e; refine Fin.ext ?_
      match e with
      | ⟨0, _⟩ => rfl
      | ⟨1, _⟩ => rfl
      | ⟨2, _⟩ => rfl
      | ⟨3, _⟩ => rfl
    refine (congrArg (fun v : BitVec 32 => min v.toInt.toNat 2047) ((congrArg idx hsi).trans hs)).trans ?_
    show min (BitVec.ofNat 32 s.val).toInt.toNat 2047 = s.val
    rw [toInt_small _ (by omega)]
    have := s.isLt
    omega
  | ⟨2, isLt⟩ =>
    rw [GatherDims.batchCoord_eq_zero _ _ _ (fun h => by simpa using List.mem_singleton.mp h)]
    unfold GatherDims.start
    rw [dif_neg (fun h => by simpa using List.mem_singleton.mp h)]
    simp only [Nat.zero_add, Nat.add_zero]
    rfl

end Cert.Knn

end
-- ==== Proof.Ref1.lean ====
/- The reference up to the first layer's product: distances, the three nearest, the weighted rows. -/
module

public import proofs.«01_k».proof.Proof.RefOps
public import proofs.«01_k».proof.Proof.Args

@[expose] public section

noncomputable section

namespace Cert.Knn

open Idealize.ShloMosaic Idealize.ShloMosaic.TcCoe Cert.ReferenceIdeal Cert.ReferenceIdeal.Gen Cert.ReferenceIdeal.Read

variable {I : Inp} {g2 be2 : Fin 128 → EReal} {x0 : Vec Ideal S4x3x8192 .f32} {x1 : Vec Ideal S4x3x2048 .f32}
    {x2 : Vec Ideal S4x128x8192 .f32} {x3 : Vec Ideal S4x256x2048 .f32} {x4 : Vec Ideal S256x384 .f32} {x5 x6 x7 : Vec Ideal S256 .f32}
    {x8 : Vec Ideal S128x256 .f32} {x9 x10 x11 : Vec Ideal S128 .f32} (H : Args I g2 be2 x0 x1 x2 x3 x4 x5 x6 x7 x8 x9 x10 x11)
include H

/-- The negated squared distance. -/
theorem ref15 (b : Fin 4) (n : Fin 8192) (s : Fin 2048) :
    val_main_v15 (F := Ideal) x0 x1 (ix3 b n s) = ((-(I.d b n s) : ℝ) : EReal) := by
  pointwise [val_main_v15, val_main_v14, val_main_v13, val_main_v12, val_main_v11, val_main_cst_1, val_main_v10, val_main_v9, val_main_v8, val_main_v7, val_main_v6, val_main_cst_0, val_main_v5, val_main_v4, val_main_v3, val_main_cst, val_main_v2, val_main_v1, val_main_v0]
  rw [show Ideal.ofBits .f32 1073741824#32 = ((2 : ℝ) : EReal) from lit_two]
  simp only [H.p1, H.p2, ← EReal.coe_mul, coe_sum, ← EReal.coe_sub, ← EReal.coe_add, ← EReal.coe_neg]
  rfl

omit H in
/-- Greatest of the negated is least. -/
theorem topAt_neg (x : S4x8192x2048.Idx → EReal) (d : Fin 2048 → ℝ) (b : Fin 4) (n : Fin 8192)
    (hx : ∀ s, x (ix3 b n s) = ((-(d s) : ℝ) : EReal)) (j : Fin 3) :
    topAt (FloatOps.cmpfTotal (F := Ideal) (φ := .f32) .gt) x b n j = sel d j := by
  unfold topAt sel
  refine congrFun (congrArg sortedFrom (funext fun k => funext fun k' => ?_)) _
  rw [Bool.eq_iff_iff, less_iff, hx, hx]
  show (BitVec.ofBool (decide (((-(d k') : ℝ) : EReal) < ((-(d k) : ℝ) : EReal))) == 1#1) = true ↔ _
  simp only [EReal.coe_lt_coe_iff, neg_lt_neg_iff]
  by_cases hlt : d k < d k' <;> simp [hlt]

/-- The three least distances, negated. -/
theorem ref_values (b : Fin 4) (n : Fin 8192) (j : Fin 3) :
    val_main_values (F := Ideal) x0 x1 (ix3 b n j) = ((-(I.d b n (sel (I.d b n) j)) : ℝ) : EReal) := by
  refine (topK_values _ _ _ b n j).trans ?_
  rw [topAt_neg _ (I.d b n) b n (fun s => ref15 H b n s), ref15 H]

/-- The three nearest points. -/
theorem ref_places (b : Fin 4) (n : Fin 8192) (j : Fin 3) :
    val_main_indices (F := Ideal) x0 x1 (ix3 b n j) = BitVec.ofNat 32 (sel (I.d b n) j).val := by
  refine (topK_places _ _ _ b n j).trans ?_
  rw [topAt_neg _ (I.d b n) b n (fun s => ref15 H b n s)]

/-- The places brought into range, which they already are. -/
theorem ref31 (b : Fin 4) (n : Fin 8192) (j : Fin 3) :
    val_main_v31 (F := Ideal) x0 x1 (ix4 b n j 0) = BitVec.ofNat 32 (sel (I.d b n) j).val := by
  have h := ref_places H b n j
  revert h
  unfold val_main_v31 val_main_v30 val_main_v29 val_main_v27
  generalize val_main_indices (F := Ideal) x0 x1 = v
  intro h
  pointwise [val_main_v28, val_main_c_5, val_main_v26, val_main_c]
  rw [h]
  have hc : IntOp.cmpi .slt (BitVec.ofNat 32 (sel (I.d b n) j).val) 0#32 = 0#1 := by
    show BitVec.ofBool (BitVec.slt _ _) = 0#1
    have hf : BitVec.slt (BitVec.ofNat 32 (sel (I.d b n) j).val) 0#32 = false := by
      unfold BitVec.slt
      rw [toInt_small _ (by omega)]
      exact decide_eq_false (not_lt.mpr (Int.natCast_nonneg _))
    rw [hf]; rfl
  rw [hc, ValueIdx.select_zero]

/-- The reciprocal of a shifted distance. -/
theorem ref20 (b : Fin 4) (n : Fin 8192) (j : Fin 3) :
    val_main_v20 (F := Ideal) x0 x1 (ix3 b n j) = ((rcp (I.d b n) j : ℝ) : EReal) := by
  have h := ref_values H b n j
  revert h
  unfold val_main_v20 val_main_v18 val_main_v16
  generalize val_main_values (F := Ideal) x0 x1 = v
  intro h
  pointwise [val_main_v19, val_main_cst_3, val_main_v17, val_main_cst_2]
  rw [h, show Ideal.ofBits .f32 841731191#32 = ((epsD : ℝ) : EReal) from lit_epsD, ← EReal.coe_neg, neg_neg, ← EReal.coe_add,
    ← EReal.coe_one, div_real _ _ (shifted_pos (I.d_nonneg b n) _).ne']
  rfl

/-- The weight of a neighbour. -/
theorem ref24 (b : Fin 4) (n : Fin 8192) (j : Fin 3) :
    val_main_v24 (F := Ideal) x0 x1 (ix3 b n j) = ((wgt (I.d b n) j : ℝ) : EReal) := by
  have h := ref20 H b n
  revert h
  unfold val_main_v24 val_main_v23 val_main_v22 val_main_v21
  generalize val_main_v20 (F := Ideal) x0 x1 = v
  intro h
  pointwise [val_main_cst_4]
  simp only [h]
  rw [Fin.sum_univ_three, ← EReal.coe_add, ← EReal.coe_add]
  refine (div_real _ (nrm (I.d b n)) (nrm_pos (I.d_nonneg b n)).ne').trans ?_
  rfl

/-- The gathered rows. -/
theorem ref32 (b : Fin 4) (n : Fin 8192) (j : Fin 3) (i : Fin 256) :
    val_main_v32 (F := Ideal) x0 x1 x3 (ix4 b n j i) = ((I.f2 b i (sel (I.d b n) j) : ℝ) : EReal) := by
  refine (gather_row _ _ b n j i _ (ref31 H b n j)).trans ?_
  refine Eq.trans ?_ (H.f2 b i _)
  pointwise [val_main_v25]

/-- The interpolated features. -/
theorem ref37 (b : Fin 4) (i : Fin 256) (n : Fin 8192) :
    val_main_v37 (F := Ideal) x0 x1 x3 (ix3 b i n) = ((itp (I.d b n) (I.f2 b i) : ℝ) : EReal) := by
  have h := fun j => ref32 H b n j i
  have h' := ref24 H b n
  revert h h'
  unfold val_main_v37 val_main_v36 val_main_v35 val_main_v34 val_main_v33
  generalize val_main_v32 (F := Ideal) x0 x1 x3 = v
  generalize val_main_v24 (F := Ideal) x0 x1 = w
  intro h h'
  pointwise [val_main_cst_6]
  simp only [h, h']
  simp only [← EReal.coe_mul, coe_sum]
  rfl

omit H in
/-- The two halves of the joined rows. -/
theorem join_at (u : S4x128x8192.Idx → EReal) (v : S4x256x8192.Idx → EReal) (b : Fin 4) (n : Fin 8192) :
    (∀ i : Fin 128, concatenate S4x384x8192 1 [⟨S4x128x8192, u⟩, ⟨S4x256x8192, v⟩] concatenates_S4x128x8192_S4x256x8192_S4x384x8192_d1
      (ix3 b (Fin.castAdd 256 i) n) = u (ix3 b i n))
    ∧ ∀ i : Fin 256, concatenate S4x384x8192 1 [⟨S4x128x8192, u⟩, ⟨S4x256x8192, v⟩] concatenates_S4x128x8192_S4x256x8192_S4x384x8192_d1
      (ix3 b (Fin.natAdd 128 i) n) = v (ix3 b i n) := by
  constructor
  · intro i
    pointwise
    exact dif_pos i.isLt
  · intro i
    pointwise
    rw [dif_neg (by simp)]
    exact congrArg (fun k => v (ix3 b k n)) (Fin.ext (Nat.add_sub_cancel_left 128 i.val))

/-- The first layer's products. -/
theorem ref43 (b : Fin 4) (o : Fin 256) (n : Fin 8192) :
    val_main_v43 (F := Ideal) x0 x1 x2 x3 x4 x5 (ix3 b o n) = ((I.h1 b n o : ℝ) : EReal) := by
  have h := ref37 H b
  have hj := join_at x2 (val_main_v37 (F := Ideal) x0 x1 x3) b n
  revert h hj
  unfold val_main_v43 val_main_v40 val_main_v39 val_main_v38
  generalize val_main_v37 (F := Ideal) x0 x1 x3 = v
  generalize concatenate S4x384x8192 1 [⟨S4x128x8192, x2⟩, ⟨S4x256x8192, v⟩] concatenates_S4x128x8192_S4x256x8192_S4x384x8192_d1 = w
  intro h hj
  pointwise [val_main_v42, val_main_v41]
  refine (congrArg (· + x5 (ix1 o)) (Fin.sum_univ_add (a := 128) (b := 256) fun k => w (ix3 b k n) * x4 (ix2 o k))).trans ?_
  simp only [hj.1, hj.2, h, H.f1, H.W1, H.b1, ← EReal.coe_mul, coe_sum, ← EReal.coe_add]
  rfl

end Cert.Knn

end
-- ==== Proof.Ref2.lean ====
/- The first layer's statistics and activation in the reference. -/
module

public import proofs.«01_k».proof.Proof.Ref1

@[expose] public section

noncomputable section

namespace Cert.Knn

open Idealize.ShloMosaic Idealize.ShloMosaic.TcCoe Cert.ReferenceIdeal Cert.ReferenceIdeal.Gen Cert.ReferenceIdeal.Read

variable {I : Inp} {g2 be2 : Fin 128 → EReal} {x0 : Vec Ideal S4x3x8192 .f32} {x1 : Vec Ideal S4x3x2048 .f32}
    {x2 : Vec Ideal S4x128x8192 .f32} {x3 : Vec Ideal S4x256x2048 .f32} {x4 : Vec Ideal S256x384 .f32} {x5 x6 x7 : Vec Ideal S256 .f32}
    {x8 : Vec Ideal S128x256 .f32} {x9 x10 x11 : Vec Ideal S128 .f32} (H : Args I g2 be2 x0 x1 x2 x3 x4 x5 x6 x7 x8 x9 x10 x11)
include H

omit H in
/-- The word zero as a float. -/
theorem sitofp_zero : FloatOps.sitofp (F := Ideal) (w := 32) FTy.f32 0#32 = ((0 : ℝ) : EReal) := by
  show (((0#32 : BitVec 32).toInt : ℝ) : EReal) = _
  simp

/-- The sum of a column of the first layer. -/
theorem ref44 (o : Fin 256) :
    val_main_v44 (F := Ideal) x0 x1 x2 x3 x4 x5 (ix1 o) = ((∑ b, ∑ n, I.c1 o b n : ℝ) : EReal) := by
  refine (sum_outer _ _ (val_main_v43 (F := Ideal) x0 x1 x2 x3 x4 x5) _ (fun _ => Ideal.ofBits_zero_f32) o).trans ?_
  simp only [ref43 H, coe_sum]
  rfl

/-- The mean of a column of the first layer. -/
theorem ref47 (o : Fin 256) :
    val_main_v47 (F := Ideal) x0 x1 x2 x3 x4 x5 (ix3 0 o 0) = ((mean (I.c1 o) : ℝ) : EReal) := by
  have hs := ref44 H o
  revert hs
  unfold val_main_v47 val_main_v45
  generalize val_main_v44 (F := Ideal) x0 x1 x2 x3 x4 x5 = u
  intro hs
  pointwise [val_main_v46, val_main_cst_8]
  rw [hs, show Ideal.ofBits .f32 1191182336#32 = ((32768 : ℝ) : EReal) from lit_rows, div_real _ _ (by norm_num)]
  rfl

/-- The squared deviations of a column of the first layer from its mean. -/
theorem ref_call0_6 (b : Fin 4) (o : Fin 256) (n : Fin 8192) :
    val_main_call0_v6 (F := Ideal) x0 x1 x2 x3 x4 x5 (ix3 b o n)
      = (((I.c1 o b n - mean (I.c1 o)) * (I.c1 o b n - mean (I.c1 o)) : ℝ) : EReal) := by
  have h := ref43 H b o n
  have hs : val_main_call0_v0 (F := Ideal) x0 x1 x2 x3 x4 x5 (ix1 o) = ((∑ b, ∑ n, I.c1 o b n : ℝ) : EReal) := ref44 H o
  revert h hs
  unfold val_main_call0_v6 val_main_call0_v5 val_main_call0_v4 val_main_call0_v3 val_main_call0_v1
  generalize val_main_v43 (F := Ideal) x0 x1 x2 x3 x4 x5 = v
  generalize val_main_call0_v0 (F := Ideal) x0 x1 x2 x3 x4 x5 = u
  intro h hs
  pointwise [val_main_call0_v2, val_main_call0_cst_0]
  rw [hs, h, show Ideal.ofBits .f32 1191182336#32 = ((32768 : ℝ) : EReal) from lit_rows, div_real _ _ (by norm_num),
    ← EReal.coe_sub, ← EReal.coe_mul]
  rfl

omit H in
/-- The number of rows, as the reference computes it. -/
theorem ref_call0_8 (i : S_.Idx) : val_main_call0_v8 (F := Ideal) i = ((32768 : ℝ) : EReal) := by
  pointwise [val_main_call0_v8, val_main_call0_cst_1, val_main_call0_v7, val_main_c_9]
  rw [show Ideal.ofBits .f32 1191182336#32 = ((32768 : ℝ) : EReal) from lit_rows,
    show FloatOps.sitofp (F := Ideal) FTy.f32 0#32 = ((0 : ℝ) : EReal) from sitofp_zero, ← EReal.coe_sub, sub_zero]

/-- The sum of the squared deviations. -/
theorem ref_call0_9 (o : Fin 256) :
    val_main_call0_v9 (F := Ideal) x0 x1 x2 x3 x4 x5 (ix1 o)
      = ((∑ b, ∑ n, (I.c1 o b n - mean (I.c1 o)) * (I.c1 o b n - mean (I.c1 o)) : ℝ) : EReal) := by
  refine (sum_outer _ _ (val_main_call0_v6 (F := Ideal) x0 x1 x2 x3 x4 x5) _ (fun _ => Ideal.ofBits_zero_f32) o).trans ?_
  simp only [ref_call0_6 H, coe_sum]

/-- The variance of a column of the first layer. -/
theorem ref48 (o : Fin 256) :
    val_main_v48 (F := Ideal) x0 x1 x2 x3 x4 x5 (ix3 0 o 0) = ((vari (I.c1 o) : ℝ) : EReal) := by
  have hs := ref_call0_9 H o
  have h8 := ref_call0_8
  revert hs h8
  unfold val_main_v48 val_main_call0_v13 val_main_call0_v12 val_main_call0_v11 val_main_call0_v10
  generalize val_main_call0_v9 (F := Ideal) x0 x1 x2 x3 x4 x5 = u
  generalize val_main_call0_v8 (F := Ideal) = r
  intro hs h8
  pointwise [val_main_call0_call0_v1, val_main_call0_call0_v0, val_main_call0_cst_3, val_main_call0_cst_4]
  rw [hs, h8, if_pos (EReal.coe_pos.mpr (by norm_num)), div_real _ _ (by norm_num), ← vari_eq]

/-- The activation of the first layer in the reference. -/
theorem ref62 (b : Fin 4) (o : Fin 256) (n : Fin 8192) :
    val_main_v62 (F := Ideal) x0 x1 x2 x3 x4 x5 x6 x7 (ix3 b o n) = act (I.c1 o) (I.c1 o b n) (x6 (ix1 o)) (x7 (ix1 o)) := by
  have h := ref43 H b o n
  have hm := ref47 H o
  have hv := ref48 H o
  revert h hm hv
  unfold val_main_v62 val_main_v61 val_main_v60 val_main_v59 val_main_v58 val_main_v57 val_main_v56 val_main_v55 val_main_v54 val_main_v53 val_main_v52 val_main_v50 val_main_v49
  generalize val_main_v43 (F := Ideal) x0 x1 x2 x3 x4 x5 = v
  generalize val_main_v47 (F := Ideal) x0 x1 x2 x3 x4 x5 = u
  generalize val_main_v48 (F := Ideal) x0 x1 x2 x3 x4 x5 = w
  intro h hm hv
  pointwise [val_main_call1_v0, val_main_call1_cst, val_main_v51, val_main_cst_10]
  rw [h, hm, hv, show Ideal.ofBits .f32 925353388#32 = ((epsV : ℝ) : EReal) from lit_epsV, ← EReal.coe_zero]
  exact act_reference (I.c1 o) (I.c1 o b n) (x6 (ix1 o)) (x7 (ix1 o))

end Cert.Knn

end
-- ==== Proof.Ref3.lean ====
/- The second layer in the reference: its products, statistics and activation. -/
module

public import proofs.«01_k».proof.Proof.Ref2

@[expose] public section

noncomputable section

namespace Cert.Knn

open Idealize.ShloMosaic Idealize.ShloMosaic.TcCoe Cert.ReferenceIdeal Cert.ReferenceIdeal.Gen Cert.ReferenceIdeal.Read

variable {I : Inp} {g2 be2 : Fin 128 → EReal} {x0 : Vec Ideal S4x3x8192 .f32} {x1 : Vec Ideal S4x3x2048 .f32}
    {x2 : Vec Ideal S4x128x8192 .f32} {x3 : Vec Ideal S4x256x2048 .f32} {x4 : Vec Ideal S256x384 .f32} {x5 x6 x7 : Vec Ideal S256 .f32}
    {x8 : Vec Ideal S128x256 .f32} {x9 x10 x11 : Vec Ideal S128 .f32} (H : Args I g2 be2 x0 x1 x2 x3 x4 x5 x6 x7 x8 x9 x10 x11)
include H

/-- The first layer's values are real. -/
theorem ref62_real (b : Fin 4) (o : Fin 256) (n : Fin 8192) :
    val_main_v62 (F := Ideal) x0 x1 x2 x3 x4 x5 x6 x7 (ix3 b o n) = ((I.z1 b n o : ℝ) : EReal) := by
  rw [ref62 H, H.g1, H.be1, act_coe]
  rfl

/-- The second layer's products. -/
theorem ref67 (b : Fin 4) (o : Fin 128) (n : Fin 8192) :
    val_main_v67 (F := Ideal) x0 x1 x2 x3 x4 x5 x6 x7 x8 x9 (ix3 b o n) = ((I.h2 b n o : ℝ) : EReal) := by
  have h := fun o => ref62_real H b o n
  revert h
  unfold val_main_v67 val_main_v64 val_main_v63
  generalize val_main_v62 (F := Ideal) x0 x1 x2 x3 x4 x5 x6 x7 = v
  intro h
  pointwise [val_main_v66, val_main_v65]
  simp only [h, H.W2, H.b2, ← EReal.coe_mul, coe_sum, ← EReal.coe_add]
  rfl

/-- The sum of a column of the second layer. -/
theorem ref68 (o : Fin 128) :
    val_main_v68 (F := Ideal) x0 x1 x2 x3 x4 x5 x6 x7 x8 x9 (ix1 o) = ((∑ b, ∑ n, I.c2 o b n : ℝ) : EReal) := by
  refine (sum_outer _ _ (val_main_v67 (F := Ideal) x0 x1 x2 x3 x4 x5 x6 x7 x8 x9) _ (fun _ => Ideal.ofBits_zero_f32) o).trans ?_
  simp only [ref67 H, coe_sum]
  rfl

/-- The mean of a column of the second layer. -/
theorem ref71 (o : Fin 128) :
    val_main_v71 (F := Ideal) x0 x1 x2 x3 x4 x5 x6 x7 x8 x9 (ix3 0 o 0) = ((mean (I.c2 o) : ℝ) : EReal) := by
  have hs := ref68 H o
  revert hs
  unfold val_main_v71 val_main_v69
  generalize val_main_v68 (F := Ideal) x0 x1 x2 x3 x4 x5 x6 x7 x8 x9 = u
  intro hs
  pointwise [val_main_v70, val_main_cst_12]
  rw [hs, show Ideal.ofBits .f32 1191182336#32 = ((32768 : ℝ) : EReal) from lit_rows, div_real _ _ (by norm_num)]
  rfl

/-- The squared deviations of a column of the second layer from its mean. -/
theorem ref_call2_6 (b : Fin 4) (o : Fin 128) (n : Fin 8192) :
    val_main_call2_v6 (F := Ideal) x0 x1 x2 x3 x4 x5 x6 x7 x8 x9 (ix3 b o n)
      = (((I.c2 o b n - mean (I.c2 o)) * (I.c2 o b n - mean (I.c2 o)) : ℝ) : EReal) := by
  have h := ref67 H b o n
  have hs : val_main_call2_v0 (F := Ideal) x0 x1 x2 x3 x4 x5 x6 x7 x8 x9 (ix1 o) = ((∑ b, ∑ n, I.c2 o b n : ℝ) : EReal) := ref68 H o
  revert h hs
  unfold val_main_call2_v6 val_main_call2_v5 val_main_call2_v4 val_main_call2_v3 val_main_call2_v1
  generalize val_main_v67 (F := Ideal) x0 x1 x2 x3 x4 x5 x6 x7 x8 x9 = v
  generalize val_main_call2_v0 (F := Ideal) x0 x1 x2 x3 x4 x5 x6 x7 x8 x9 = u
  intro h hs
  pointwise [val_main_call2_v2, val_main_call2_cst_0]
  rw [hs, h, show Ideal.ofBits .f32 1191182336#32 = ((32768 : ℝ) : EReal) from lit_rows, div_real _ _ (by norm_num),
    ← EReal.coe_sub, ← EReal.coe_mul]
  rfl

omit H in
/-- The number of rows, as the reference computes it. -/
theorem ref_call2_8 (i : S_.Idx) : val_main_call2_v8 (F := Ideal) i = ((32768 : ℝ) : EReal) := by
  pointwise [val_main_call2_v8, val_main_call2_cst_1, val_main_call2_v7, val_main_c_13]
  rw [show Ideal.ofBits .f32 1191182336#32 = ((32768 : ℝ) : EReal) from lit_rows,
    show FloatOps.sitofp (F := Ideal) FTy.f32 0#32 = ((0 : ℝ) : EReal) from sitofp_zero, ← EReal.coe_sub, sub_zero]

/-- The sum of the squared deviations. -/
theorem ref_call2_9 (o : Fin 128) :
    val_main_call2_v9 (F := Ideal) x0 x1 x2 x3 x4 x5 x6 x7 x8 x9 (ix1 o)
      = ((∑ b, ∑ n, (I.c2 o b n - mean (I.c2 o)) * (I.c2 o b n - mean (I.c2 o)) : ℝ) : EReal) := by
  refine (sum_outer _ _ (val_main_call2_v6 (F := Ideal) x0 x1 x2 x3 x4 x5 x6 x7 x8 x9) _ (fun _ => Ideal.ofBits_zero_f32) o).trans ?_
  simp only [ref_call2_6 H, coe_sum]

/-- The variance of a column of the second layer. -/
theorem ref72 (o : Fin 128) :
    val_main_v72 (F := Ideal) x0 x1 x2 x3 x4 x5 x6 x7 x8 x9 (ix3 0 o 0) = ((vari (I.c2 o) : ℝ) : EReal) := by
  have hs := ref_call2_9 H o
  have h8 := ref_call2_8
  revert hs h8
  unfold val_main_v72 val_main_call2_v13 val_main_call2_v12 val_main_call2_v11 val_main_call2_v10
  generalize val_main_call2_v9 (F := Ideal) x0 x1 x2 x3 x4 x5 x6 x7 x8 x9 = u
  generalize val_main_call2_v8 (F := Ideal) = r
  intro hs h8
  pointwise [val_main_call2_call0_v1, val_main_call2_call0_v0, val_main_call2_cst_3, val_main_call2_cst_4]
  rw [hs, h8, if_pos (EReal.coe_pos.mpr (by norm_num)), div_real _ _ (by norm_num), ← vari_eq]

/-- The activation of the second layer in the reference. -/
theorem ref86 (b : Fin 4) (o : Fin 128) (n : Fin 8192) :
    val_main_v86 (F := Ideal) x0 x1 x2 x3 x4 x5 x6 x7 x8 x9 x10 x11 (ix3 b o n) = act (I.c2 o) (I.c2 o b n) (x10 (ix1 o)) (x11 (ix1 o)) := by
  have h := ref67 H b o n
  have hm := ref71 H o
  have hv := ref72 H o
  revert h hm hv
  unfold val_main_v86 val_main_v85 val_main_v84 val_main_v83 val_main_v82 val_main_v81 val_main_v80 val_main_v79 val_main_v78 val_main_v77 val_main_v76 val_main_v74 val_main_v73
  generalize val_main_v67 (F := Ideal) x0 x1 x2 x3 x4 x5 x6 x7 x8 x9 = v
  generalize val_main_v71 (F := Ideal) x0 x1 x2 x3 x4 x5 x6 x7 x8 x9 = u
  generalize val_main_v72 (F := Ideal) x0 x1 x2 x3 x4 x5 x6 x7 x8 x9 = w
  intro h hm hv
  pointwise [val_main_call3_v0, val_main_call3_cst, val_main_v75, val_main_cst_14]
  rw [h, hm, hv, show Ideal.ofBits .f32 925353388#32 = ((epsV : ℝ) : EReal) from lit_epsV, ← EReal.coe_zero]
  exact act_reference (I.c2 o) (I.c2 o b n) (x10 (ix1 o)) (x11 (ix1 o))

/-- The reference's result. -/
theorem ref_result (b : Fin 4) (o : Fin 128) (n : Fin 8192) :
    val_main_v86 (F := Ideal) x0 x1 x2 x3 x4 x5 x6 x7 x8 x9 x10 x11 (ix3 b o n) = I.out g2 be2 b o n := by
  rw [ref86 H, H.g2, H.be2]
  rfl

end Cert.Knn

end
-- ==== Proof.Equal.lean ====
/- The equality of the two programs' results, from memories that agree on the arguments and meet the precondition. -/
module

public import proofs.«01_k».proof.Defs
public import proofs.«01_k».proof.Proof.Finite
public import proofs.«01_k».proof.Proof.KVal
public import proofs.«01_k».proof.Proof.Ref3
public import proofs.«01_k».proof.Proof.Gen.ReferenceIdeal.Run

@[expose] public section

noncomputable section

namespace Cert.Knn

open Idealize.ShloMosaic Idealize.ShloMosaic.TcCoe Idealize.SL.Sem

/-- Two arrays of the result's shape that agree at every triple of coordinates are equal. -/
theorem result_ext {x y : Vec Ideal ⟨3, ![4, 128, 8192]⟩ .f32} (h : ∀ b o n, x (ix3 b o n) = y (ix3 b o n)) : x = y := by
  funext j
  rw [show j = ix3 (j 0) (j 1) (j 2) from ValueIdx.eq_ix3 j]
  exact h _ _ _

/-- The reference's result, of arguments that meet the precondition, is the kernel's. -/
theorem results_equal (m : (ℓ : Loc Cert.KernelIdeal.nD Cert.KernelIdeal.τ Cert.KernelIdeal.sig) → Buf (Elt Ideal) ℓ)
    (ρ : Dev Cert.KernelIdeal.nD → PrngReg) {I : Inp} {g2 be2 : Fin 128 → EReal} (c : Dev Cert.KernelIdeal.nD) (H : ArgsAt m I g2 be2 c)
    {x0 : Vec Ideal ⟨3, ![4, 3, 8192]⟩ .f32} {x1 : Vec Ideal ⟨3, ![4, 3, 2048]⟩ .f32} {x2 : Vec Ideal ⟨3, ![4, 128, 8192]⟩ .f32}
    {x3 : Vec Ideal ⟨3, ![4, 256, 2048]⟩ .f32} {x4 : Vec Ideal ⟨2, ![256, 384]⟩ .f32} {x5 x6 x7 : Vec Ideal ⟨1, ![256]⟩ .f32}
    {x8 : Vec Ideal ⟨2, ![128, 256]⟩ .f32} {x9 x10 x11 : Vec Ideal ⟨1, ![128]⟩ .f32} (G : Args I g2 be2 x0 x1 x2 x3 x4 x5 x6 x7 x8 x9 x10 x11) :
    Cert.ReferenceIdeal.Read.val_main_v86 (F := Ideal) x0 x1 x2 x3 x4 x5 x6 x7 x8 x9 x10 x11
      = (Cert.KernelIdeal.Gen.W6 m ρ c (Proc.devRef .tc Cert.KernelIdeal.main_v16) : Vec Ideal ⟨3, ![4, 128, 8192]⟩ .f32) :=
  result_ext fun b o n => (ref_result G b o n).trans (kernel_result m ρ H b o n).symm

/-- Arrays equal to those of a memory hold the same values. -/
theorem args_congr {I : Inp} {g2 be2 : Fin 128 → EReal}
    {x0 y0 : Vec Ideal ⟨3, ![4, 3, 8192]⟩ .f32} {x1 y1 : Vec Ideal ⟨3, ![4, 3, 2048]⟩ .f32} {x2 y2 : Vec Ideal ⟨3, ![4, 128, 8192]⟩ .f32}
    {x3 y3 : Vec Ideal ⟨3, ![4, 256, 2048]⟩ .f32} {x4 y4 : Vec Ideal ⟨2, ![256, 384]⟩ .f32} {x5 x6 x7 y5 y6 y7 : Vec Ideal ⟨1, ![256]⟩ .f32}
    {x8 y8 : Vec Ideal ⟨2, ![128, 256]⟩ .f32} {x9 x10 x11 y9 y10 y11 : Vec Ideal ⟨1, ![128]⟩ .f32}
    (H : Args I g2 be2 x0 x1 x2 x3 x4 x5 x6 x7 x8 x9 x10 x11)
    (e : y0 = x0 ∧ y1 = x1 ∧ y2 = x2 ∧ y3 = x3 ∧ y4 = x4 ∧ y5 = x5 ∧ y6 = x6 ∧ y7 = x7 ∧ y8 = x8 ∧ y9 = x9 ∧ y10 = x10 ∧ y11 = x11) :
    Args I g2 be2 y0 y1 y2 y3 y4 y5 y6 y7 y8 y9 y10 y11 := by
  obtain ⟨rfl, rfl, rfl, rfl, rfl, rfl, rfl, rfl, rfl, rfl, rfl, rfl⟩ := e
  exact H

/-- The value claim: both programs run, and the reference ends with the kernel's result. -/
theorem equal [hPre : Cert.Pre_finite.Facts] :
    Cert.algebraic_KernelIdeal_ReferenceIdeal_pre_finite (hKernelIdeal := Cert.KernelIdeal.Gen.facts)
      (hReferenceIdeal := Cert.ReferenceIdeal.Gen.facts) (hPre_finite := hPre) := by
  intro m g m' g' hpre hagree
  refine ⟨fun c => Cert.KernelIdeal.Gen.W6 m g c (Proc.devRef .tc Cert.KernelIdeal.main_v16), kernel_run m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v86_eq (StableHlo.launchContents m' c)).trans ?_
  have H := args_of_finite _ _ _ _ _ _ _ _ _ _ _ _ (hpre c)
  exact results_equal m g c H (args_congr H (hagree c))

end Cert.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frame of the kernel at the machine words: the generated run. -/
theorem frame_words : Cert.quiescent_Kernel := fun m ρ _ => Cert.Kernel.Gen.frame m ρ

/-- The frame of the idealized kernel: the generated run at the extended reals. -/
theorem frame_ideal : Cert.quiescent_KernelIdeal := fun m ρ _ => Cert.KernelIdeal.Gen.frame m ρ

/-- The frame of the idealized reference: its run keeps every argument, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel's frame at the arguments that meet the precondition: the same run. -/
theorem frame_ideal_finite [hPre : Cert.Pre_finite.Facts] : Cert.quiescent_KernelIdeal_pre_finite :=
  fun m ρ _ => Cert.KernelIdeal.Gen.frame m ρ

/-- The idealized reference's frame at the arguments that meet the precondition: the same run. -/
theorem frame_reference_finite [hPre : Cert.Pre_finite.Facts] : Cert.quiescent_ReferenceIdeal_pre_finite :=
  fun m ρ _ => frame_reference m ρ trivial

/-- The certificate: the frames, that idealizing replaced no operation, and that the two results are equal. -/
theorem claim : Cert.Claim :=
  ⟨Cert.Kernel.Gen.facts, Cert.KernelIdeal.Gen.facts, Cert.ReferenceIdeal.Gen.facts, Cert.Knn.pre_facts,
    frame_words, frame_ideal, frame_ideal_finite (hPre := Cert.Knn.pre_facts), frame_reference,
    frame_reference_finite (hPre := Cert.Knn.pre_facts), trivial, Cert.Knn.equal (hPre := Cert.Knn.pre_facts)⟩

end Cert.Proof

end
